-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelPlainIdeal (m : (ℓ : Loc Cert.KernelPlainIdeal.nD Cert.KernelPlainIdeal.τ Cert.KernelPlainIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjAPlainIdeal (m : (ℓ : Loc Cert.ProjAPlainIdeal.nD Cert.ProjAPlainIdeal.τ Cert.ProjAPlainIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBPlainIdeal (m : (ℓ : Loc Cert.ProjBPlainIdeal.nD Cert.ProjBPlainIdeal.τ Cert.ProjBPlainIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutAPlainIdeal (m : (ℓ : Loc Cert.OutAPlainIdeal.nD Cert.OutAPlainIdeal.τ Cert.OutAPlainIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBPlainIdeal (m : (ℓ : Loc Cert.OutBPlainIdeal.nD Cert.OutBPlainIdeal.τ Cert.OutBPlainIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_finite_mem [hPre_finite_mem : Cert.Pre_finite_mem.Facts] (m : (ℓ : Loc Cert.MemIdeal.nD Cert.MemIdeal.τ Cert.MemIdeal.sig) → Buf (Elt Ideal) ℓ) : Prop :=
  ∀ c : Dev Cert.MemIdeal.nD,
    (Cert.Pre_finite_mem.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).1 = (fun _ => 1#1)
    ∧ (Cert.Pre_finite_mem.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).2 = (fun _ => 1#1)

def Pre_MemPlainIdeal (m : (ℓ : Loc Cert.MemPlainIdeal.nD Cert.MemPlainIdeal.τ Cert.MemPlainIdeal.sig) → Buf (Elt Ideal) ℓ) : Prop :=
  True

def Pre_MemPlainIdeal_finite_mem [hPre_finite_mem : Cert.Pre_finite_mem.Facts] (m : (ℓ : Loc Cert.MemPlainIdeal.nD Cert.MemPlainIdeal.τ Cert.MemPlainIdeal.sig) → Buf (Elt Ideal) ℓ) : Prop :=
  ∀ c : Dev Cert.MemPlainIdeal.nD,
    (Cert.Pre_finite_mem.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2))).1 = (fun _ => 1#1)
    ∧ (Cert.Pre_finite_mem.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2))).2 = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvPlainIdeal (m : (ℓ : Loc Cert.KvPlainIdeal.nD Cert.KvPlainIdeal.τ Cert.KvPlainIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormPlainIdeal (m : (ℓ : Loc Cert.NormPlainIdeal.nD Cert.NormPlainIdeal.τ Cert.NormPlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelPlainIdeal [hKernelPlainIdeal : Cert.KernelPlainIdeal.Facts] : Prop :=
  ∀ (m : (ℓ : Loc Cert.KernelPlainIdeal.nD Cert.KernelPlainIdeal.τ Cert.KernelPlainIdeal.sig) → Buf (Elt Ideal) ℓ) (g : Dev Cert.KernelPlainIdeal.nD → PrngReg), Pre_KernelPlainIdeal m →
    θ_run (Cert.KernelPlainIdeal.defs (F := Ideal)) (onTc (τ := Cert.KernelPlainIdeal.τ) (Cert.KernelPlainIdeal.main (F := Ideal))) ⟨m, fun _ => 0, g⟩ (fun r => (∀ c : Dev Cert.KernelPlainIdeal.nD,
      r.2.mem ((c.tc : Thread Cert.KernelPlainIdeal.nD Cert.KernelPlainIdeal.τ).loc Cert.KernelPlainIdeal.main_arg0) = m ((c.tc : Thread Cert.KernelPlainIdeal.nD Cert.KernelPlainIdeal.τ).loc Cert.KernelPlainIdeal.main_arg0)
      ∧ r.2.mem ((c.tc : Thread Cert.KernelPlainIdeal.nD Cert.KernelPlainIdeal.τ).loc Cert.KernelPlainIdeal.main_arg1) = m ((c.tc : Thread Cert.KernelPlainIdeal.nD Cert.KernelPlainIdeal.τ).loc Cert.KernelPlainIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjAPlainIdeal [hProjAPlainIdeal : Cert.ProjAPlainIdeal.Facts] : Prop :=
  ∀ (m : (ℓ : Loc Cert.ProjAPlainIdeal.nD Cert.ProjAPlainIdeal.τ Cert.ProjAPlainIdeal.sig) → Buf (Elt Ideal) ℓ) (g : Dev Cert.ProjAPlainIdeal.nD → PrngReg), Pre_ProjAPlainIdeal m →
    θ_run (Cert.ProjAPlainIdeal.defs (F := Ideal)) (onTc (τ := Cert.ProjAPlainIdeal.τ) (Cert.ProjAPlainIdeal.main (F := Ideal))) ⟨m, fun _ => 0, g⟩ (fun r => (∀ c : Dev Cert.ProjAPlainIdeal.nD,
      r.2.mem ((c.tc : Thread Cert.ProjAPlainIdeal.nD Cert.ProjAPlainIdeal.τ).loc Cert.ProjAPlainIdeal.main_arg0) = m ((c.tc : Thread Cert.ProjAPlainIdeal.nD Cert.ProjAPlainIdeal.τ).loc Cert.ProjAPlainIdeal.main_arg0)
      ∧ r.2.mem ((c.tc : Thread Cert.ProjAPlainIdeal.nD Cert.ProjAPlainIdeal.τ).loc Cert.ProjAPlainIdeal.main_arg1) = m ((c.tc : Thread Cert.ProjAPlainIdeal.nD Cert.ProjAPlainIdeal.τ).loc Cert.ProjAPlainIdeal.main_arg1)
      ∧ r.2.mem ((c.tc : Thread Cert.ProjAPlainIdeal.nD Cert.ProjAPlainIdeal.τ).loc Cert.ProjAPlainIdeal.main_arg2) = m ((c.tc : Thread Cert.ProjAPlainIdeal.nD Cert.ProjAPlainIdeal.τ).loc Cert.ProjAPlainIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBPlainIdeal [hProjBPlainIdeal : Cert.ProjBPlainIdeal.Facts] : Prop :=
  ∀ (m : (ℓ : Loc Cert.ProjBPlainIdeal.nD Cert.ProjBPlainIdeal.τ Cert.ProjBPlainIdeal.sig) → Buf (Elt Ideal) ℓ) (g : Dev Cert.ProjBPlainIdeal.nD → PrngReg), Pre_ProjBPlainIdeal m →
    θ_run (Cert.ProjBPlainIdeal.defs (F := Ideal)) (onTc (τ := Cert.ProjBPlainIdeal.τ) (Cert.ProjBPlainIdeal.main (F := Ideal))) ⟨m, fun _ => 0, g⟩ (fun r => (∀ c : Dev Cert.ProjBPlainIdeal.nD,
      r.2.mem ((c.tc : Thread Cert.ProjBPlainIdeal.nD Cert.ProjBPlainIdeal.τ).loc Cert.ProjBPlainIdeal.main_arg0) = m ((c.tc : Thread Cert.ProjBPlainIdeal.nD Cert.ProjBPlainIdeal.τ).loc Cert.ProjBPlainIdeal.main_arg0)
      ∧ r.2.mem ((c.tc : Thread Cert.ProjBPlainIdeal.nD Cert.ProjBPlainIdeal.τ).loc Cert.ProjBPlainIdeal.main_arg1) = m ((c.tc : Thread Cert.ProjBPlainIdeal.nD Cert.ProjBPlainIdeal.τ).loc Cert.ProjBPlainIdeal.main_arg1)
      ∧ r.2.mem ((c.tc : Thread Cert.ProjBPlainIdeal.nD Cert.ProjBPlainIdeal.τ).loc Cert.ProjBPlainIdeal.main_arg2) = m ((c.tc : Thread Cert.ProjBPlainIdeal.nD Cert.ProjBPlainIdeal.τ).loc Cert.ProjBPlainIdeal.main_arg2))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4))
      ∧ r.2.sem = fun _ => 0)

def quiescent_OutAPlainIdeal [hOutAPlainIdeal : Cert.OutAPlainIdeal.Facts] : Prop :=
  ∀ (m : (ℓ : Loc Cert.OutAPlainIdeal.nD Cert.OutAPlainIdeal.τ Cert.OutAPlainIdeal.sig) → Buf (Elt Ideal) ℓ) (g : Dev Cert.OutAPlainIdeal.nD → PrngReg), Pre_OutAPlainIdeal m →
    θ_run (Cert.OutAPlainIdeal.defs (F := Ideal)) (onTc (τ := Cert.OutAPlainIdeal.τ) (Cert.OutAPlainIdeal.main (F := Ideal))) ⟨m, fun _ => 0, g⟩ (fun r => (∀ c : Dev Cert.OutAPlainIdeal.nD,
      r.2.mem ((c.tc : Thread Cert.OutAPlainIdeal.nD Cert.OutAPlainIdeal.τ).loc Cert.OutAPlainIdeal.main_arg0) = m ((c.tc : Thread Cert.OutAPlainIdeal.nD Cert.OutAPlainIdeal.τ).loc Cert.OutAPlainIdeal.main_arg0)
      ∧ r.2.mem ((c.tc : Thread Cert.OutAPlainIdeal.nD Cert.OutAPlainIdeal.τ).loc Cert.OutAPlainIdeal.main_arg1) = m ((c.tc : Thread Cert.OutAPlainIdeal.nD Cert.OutAPlainIdeal.τ).loc Cert.OutAPlainIdeal.main_arg1)
      ∧ r.2.mem ((c.tc : Thread Cert.OutAPlainIdeal.nD Cert.OutAPlainIdeal.τ).loc Cert.OutAPlainIdeal.main_arg2) = m ((c.tc : Thread Cert.OutAPlainIdeal.nD Cert.OutAPlainIdeal.τ).loc Cert.OutAPlainIdeal.main_arg2)
      ∧ r.2.mem ((c.tc : Thread Cert.OutAPlainIdeal.nD Cert.OutAPlainIdeal.τ).loc Cert.OutAPlainIdeal.main_arg3) = m ((c.tc : Thread Cert.OutAPlainIdeal.nD Cert.OutAPlainIdeal.τ).loc Cert.OutAPlainIdeal.main_arg3)
      ∧ r.2.mem ((c.tc : Thread Cert.OutAPlainIdeal.nD Cert.OutAPlainIdeal.τ).loc Cert.OutAPlainIdeal.main_arg4) = m ((c.tc : Thread Cert.OutAPlainIdeal.nD Cert.OutAPlainIdeal.τ).loc Cert.OutAPlainIdeal.main_arg4))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3)
      ∧ r.2.mem ((c.tc : Thread Cert.OutB.nD Cert.OutB.τ).loc Cert.OutB.main_arg4) = m ((c.tc : Thread Cert.OutB.nD Cert.OutB.τ).loc Cert.OutB.main_arg4))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
      ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4))
      ∧ r.2.sem = fun _ => 0)

def quiescent_OutBPlainIdeal [hOutBPlainIdeal : Cert.OutBPlainIdeal.Facts] : Prop :=
  ∀ (m : (ℓ : Loc Cert.OutBPlainIdeal.nD Cert.OutBPlainIdeal.τ Cert.OutBPlainIdeal.sig) → Buf (Elt Ideal) ℓ) (g : Dev Cert.OutBPlainIdeal.nD → PrngReg), Pre_OutBPlainIdeal m →
    θ_run (Cert.OutBPlainIdeal.defs (F := Ideal)) (onTc (τ := Cert.OutBPlainIdeal.τ) (Cert.OutBPlainIdeal.main (F := Ideal))) ⟨m, fun _ => 0, g⟩ (fun r => (∀ c : Dev Cert.OutBPlainIdeal.nD,
      r.2.mem ((c.tc : Thread Cert.OutBPlainIdeal.nD Cert.OutBPlainIdeal.τ).loc Cert.OutBPlainIdeal.main_arg0) = m ((c.tc : Thread Cert.OutBPlainIdeal.nD Cert.OutBPlainIdeal.τ).loc Cert.OutBPlainIdeal.main_arg0)
      ∧ r.2.mem ((c.tc : Thread Cert.OutBPlainIdeal.nD Cert.OutBPlainIdeal.τ).loc Cert.OutBPlainIdeal.main_arg1) = m ((c.tc : Thread Cert.OutBPlainIdeal.nD Cert.OutBPlainIdeal.τ).loc Cert.OutBPlainIdeal.main_arg1)
      ∧ r.2.mem ((c.tc : Thread Cert.OutBPlainIdeal.nD Cert.OutBPlainIdeal.τ).loc Cert.OutBPlainIdeal.main_arg2) = m ((c.tc : Thread Cert.OutBPlainIdeal.nD Cert.OutBPlainIdeal.τ).loc Cert.OutBPlainIdeal.main_arg2)
      ∧ r.2.mem ((c.tc : Thread Cert.OutBPlainIdeal.nD Cert.OutBPlainIdeal.τ).loc Cert.OutBPlainIdeal.main_arg3) = m ((c.tc : Thread Cert.OutBPlainIdeal.nD Cert.OutBPlainIdeal.τ).loc Cert.OutBPlainIdeal.main_arg3)
      ∧ r.2.mem ((c.tc : Thread Cert.OutBPlainIdeal.nD Cert.OutBPlainIdeal.τ).loc Cert.OutBPlainIdeal.main_arg4) = m ((c.tc : Thread Cert.OutBPlainIdeal.nD Cert.OutBPlainIdeal.τ).loc Cert.OutBPlainIdeal.main_arg4))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemIdeal_pre_finite_mem [hMemIdeal : Cert.MemIdeal.Facts] [hPre_finite_mem : Cert.Pre_finite_mem.Facts] : Prop :=
  ∀ (m : (ℓ : Loc Cert.MemIdeal.nD Cert.MemIdeal.τ Cert.MemIdeal.sig) → Buf (Elt Ideal) ℓ) (g : Dev Cert.MemIdeal.nD → PrngReg), Pre_MemIdeal_finite_mem m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemPlainIdeal [hMemPlainIdeal : Cert.MemPlainIdeal.Facts] : Prop :=
  ∀ (m : (ℓ : Loc Cert.MemPlainIdeal.nD Cert.MemPlainIdeal.τ Cert.MemPlainIdeal.sig) → Buf (Elt Ideal) ℓ) (g : Dev Cert.MemPlainIdeal.nD → PrngReg), Pre_MemPlainIdeal m →
    θ_run (Cert.MemPlainIdeal.defs (F := Ideal)) (onTc (τ := Cert.MemPlainIdeal.τ) (Cert.MemPlainIdeal.main (F := Ideal))) ⟨m, fun _ => 0, g⟩ (fun r => (∀ c : Dev Cert.MemPlainIdeal.nD,
      r.2.mem ((c.tc : Thread Cert.MemPlainIdeal.nD Cert.MemPlainIdeal.τ).loc Cert.MemPlainIdeal.main_arg0) = m ((c.tc : Thread Cert.MemPlainIdeal.nD Cert.MemPlainIdeal.τ).loc Cert.MemPlainIdeal.main_arg0)
      ∧ r.2.mem ((c.tc : Thread Cert.MemPlainIdeal.nD Cert.MemPlainIdeal.τ).loc Cert.MemPlainIdeal.main_arg1) = m ((c.tc : Thread Cert.MemPlainIdeal.nD Cert.MemPlainIdeal.τ).loc Cert.MemPlainIdeal.main_arg1)
      ∧ r.2.mem ((c.tc : Thread Cert.MemPlainIdeal.nD Cert.MemPlainIdeal.τ).loc Cert.MemPlainIdeal.main_arg2) = m ((c.tc : Thread Cert.MemPlainIdeal.nD Cert.MemPlainIdeal.τ).loc Cert.MemPlainIdeal.main_arg2))
      ∧ r.2.sem = fun _ => 0)

def quiescent_MemPlainIdeal_pre_finite_mem [hMemPlainIdeal : Cert.MemPlainIdeal.Facts] [hPre_finite_mem : Cert.Pre_finite_mem.Facts] : Prop :=
  ∀ (m : (ℓ : Loc Cert.MemPlainIdeal.nD Cert.MemPlainIdeal.τ Cert.MemPlainIdeal.sig) → Buf (Elt Ideal) ℓ) (g : Dev Cert.MemPlainIdeal.nD → PrngReg), Pre_MemPlainIdeal_finite_mem m →
    θ_run (Cert.MemPlainIdeal.defs (F := Ideal)) (onTc (τ := Cert.MemPlainIdeal.τ) (Cert.MemPlainIdeal.main (F := Ideal))) ⟨m, fun _ => 0, g⟩ (fun r => (∀ c : Dev Cert.MemPlainIdeal.nD,
      r.2.mem ((c.tc : Thread Cert.MemPlainIdeal.nD Cert.MemPlainIdeal.τ).loc Cert.MemPlainIdeal.main_arg0) = m ((c.tc : Thread Cert.MemPlainIdeal.nD Cert.MemPlainIdeal.τ).loc Cert.MemPlainIdeal.main_arg0)
      ∧ r.2.mem ((c.tc : Thread Cert.MemPlainIdeal.nD Cert.MemPlainIdeal.τ).loc Cert.MemPlainIdeal.main_arg1) = m ((c.tc : Thread Cert.MemPlainIdeal.nD Cert.MemPlainIdeal.τ).loc Cert.MemPlainIdeal.main_arg1)
      ∧ r.2.mem ((c.tc : Thread Cert.MemPlainIdeal.nD Cert.MemPlainIdeal.τ).loc Cert.MemPlainIdeal.main_arg2) = m ((c.tc : Thread Cert.MemPlainIdeal.nD Cert.MemPlainIdeal.τ).loc Cert.MemPlainIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvPlainIdeal [hKvPlainIdeal : Cert.KvPlainIdeal.Facts] : Prop :=
  ∀ (m : (ℓ : Loc Cert.KvPlainIdeal.nD Cert.KvPlainIdeal.τ Cert.KvPlainIdeal.sig) → Buf (Elt Ideal) ℓ) (g : Dev Cert.KvPlainIdeal.nD → PrngReg), Pre_KvPlainIdeal m →
    θ_run (Cert.KvPlainIdeal.defs (F := Ideal)) (onTc (τ := Cert.KvPlainIdeal.τ) (Cert.KvPlainIdeal.main (F := Ideal))) ⟨m, fun _ => 0, g⟩ (fun r => (∀ c : Dev Cert.KvPlainIdeal.nD,
      r.2.mem ((c.tc : Thread Cert.KvPlainIdeal.nD Cert.KvPlainIdeal.τ).loc Cert.KvPlainIdeal.main_arg0) = m ((c.tc : Thread Cert.KvPlainIdeal.nD Cert.KvPlainIdeal.τ).loc Cert.KvPlainIdeal.main_arg0)
      ∧ r.2.mem ((c.tc : Thread Cert.KvPlainIdeal.nD Cert.KvPlainIdeal.τ).loc Cert.KvPlainIdeal.main_arg1) = m ((c.tc : Thread Cert.KvPlainIdeal.nD Cert.KvPlainIdeal.τ).loc Cert.KvPlainIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormPlainIdeal [hNormPlainIdeal : Cert.NormPlainIdeal.Facts] : Prop :=
  ∀ (m : (ℓ : Loc Cert.NormPlainIdeal.nD Cert.NormPlainIdeal.τ Cert.NormPlainIdeal.sig) → Buf (Elt Ideal) ℓ) (g : Dev Cert.NormPlainIdeal.nD → PrngReg), Pre_NormPlainIdeal m →
    θ_run (Cert.NormPlainIdeal.defs (F := Ideal)) (onTc (τ := Cert.NormPlainIdeal.τ) (Cert.NormPlainIdeal.main (F := Ideal))) ⟨m, fun _ => 0, g⟩ (fun r => (∀ c : Dev Cert.NormPlainIdeal.nD,
      r.2.mem ((c.tc : Thread Cert.NormPlainIdeal.nD Cert.NormPlainIdeal.τ).loc Cert.NormPlainIdeal.main_arg0) = m ((c.tc : Thread Cert.NormPlainIdeal.nD Cert.NormPlainIdeal.τ).loc Cert.NormPlainIdeal.main_arg0)
      ∧ r.2.mem ((c.tc : Thread Cert.NormPlainIdeal.nD Cert.NormPlainIdeal.τ).loc Cert.NormPlainIdeal.main_arg1) = m ((c.tc : Thread Cert.NormPlainIdeal.nD Cert.NormPlainIdeal.τ).loc Cert.NormPlainIdeal.main_arg1))
      ∧ r.2.sem = fun _ => 0)

def preserves_Kernel_KernelIdeal : Prop :=
  IdealRules.named_const.Statement Cert.KernelIdeal.κ "mask" .f32 0xF149F2CA#32 ⊥

def preserves_ProjA_ProjAIdeal : Prop :=
  True

def algebraic_ProjAIdeal_ProjAPlainIdeal [hProjAIdeal : Cert.ProjAIdeal.Facts] [hProjAPlainIdeal : Cert.ProjAPlainIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjAPlainIdeal.nD Cert.ProjAPlainIdeal.τ Cert.ProjAPlainIdeal.sig) → Buf (Elt Ideal) ℓ) (g' : Dev Cert.ProjAPlainIdeal.nD → PrngReg), Pre_ProjAIdeal m →
    (∀ c : Dev Cert.ProjAIdeal.nD,
      m' ((c.tc : Thread Cert.ProjAPlainIdeal.nD Cert.ProjAPlainIdeal.τ).loc Cert.ProjAPlainIdeal.main_arg0) = m ((c.tc : Thread Cert.ProjAIdeal.nD Cert.ProjAIdeal.τ).loc Cert.ProjAIdeal.main_arg0)
      ∧ m' ((c.tc : Thread Cert.ProjAPlainIdeal.nD Cert.ProjAPlainIdeal.τ).loc Cert.ProjAPlainIdeal.main_arg1) = m ((c.tc : Thread Cert.ProjAIdeal.nD Cert.ProjAIdeal.τ).loc Cert.ProjAIdeal.main_arg1)
      ∧ m' ((c.tc : Thread Cert.ProjAPlainIdeal.nD Cert.ProjAPlainIdeal.τ).loc Cert.ProjAPlainIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v3)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v3) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjAPlainIdeal.defs (F := Ideal)) (onTc (τ := Cert.ProjAPlainIdeal.τ) (Cert.ProjAPlainIdeal.main (F := Ideal))) ⟨m', fun _ => 0, g'⟩ (fun r => ∀ c : Dev Cert.ProjAPlainIdeal.nD,
          r.2.mem ((c.tc : Thread Cert.ProjAPlainIdeal.nD Cert.ProjAPlainIdeal.τ).loc Cert.ProjAPlainIdeal.main_v14) = v0 c
          ∧ r.2.mem ((c.tc : Thread Cert.ProjAPlainIdeal.nD Cert.ProjAPlainIdeal.τ).loc Cert.ProjAPlainIdeal.main_arg0) = m' ((c.tc : Thread Cert.ProjAPlainIdeal.nD Cert.ProjAPlainIdeal.τ).loc Cert.ProjAPlainIdeal.main_arg0)
          ∧ r.2.mem ((c.tc : Thread Cert.ProjAPlainIdeal.nD Cert.ProjAPlainIdeal.τ).loc Cert.ProjAPlainIdeal.main_arg1) = m' ((c.tc : Thread Cert.ProjAPlainIdeal.nD Cert.ProjAPlainIdeal.τ).loc Cert.ProjAPlainIdeal.main_arg1)
          ∧ r.2.mem ((c.tc : Thread Cert.ProjAPlainIdeal.nD Cert.ProjAPlainIdeal.τ).loc Cert.ProjAPlainIdeal.main_arg2) = m' ((c.tc : Thread Cert.ProjAPlainIdeal.nD Cert.ProjAPlainIdeal.τ).loc Cert.ProjAPlainIdeal.main_arg2))

def preserves_ProjB_ProjBIdeal : Prop :=
  True

def algebraic_ProjBIdeal_ProjBPlainIdeal [hProjBIdeal : Cert.ProjBIdeal.Facts] [hProjBPlainIdeal : Cert.ProjBPlainIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBPlainIdeal.nD Cert.ProjBPlainIdeal.τ Cert.ProjBPlainIdeal.sig) → Buf (Elt Ideal) ℓ) (g' : Dev Cert.ProjBPlainIdeal.nD → PrngReg), Pre_ProjBIdeal m →
    (∀ c : Dev Cert.ProjBIdeal.nD,
      m' ((c.tc : Thread Cert.ProjBPlainIdeal.nD Cert.ProjBPlainIdeal.τ).loc Cert.ProjBPlainIdeal.main_arg0) = m ((c.tc : Thread Cert.ProjBIdeal.nD Cert.ProjBIdeal.τ).loc Cert.ProjBIdeal.main_arg0)
      ∧ m' ((c.tc : Thread Cert.ProjBPlainIdeal.nD Cert.ProjBPlainIdeal.τ).loc Cert.ProjBPlainIdeal.main_arg1) = m ((c.tc : Thread Cert.ProjBIdeal.nD Cert.ProjBIdeal.τ).loc Cert.ProjBIdeal.main_arg1)
      ∧ m' ((c.tc : Thread Cert.ProjBPlainIdeal.nD Cert.ProjBPlainIdeal.τ).loc Cert.ProjBPlainIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v10)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v10) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBPlainIdeal.defs (F := Ideal)) (onTc (τ := Cert.ProjBPlainIdeal.τ) (Cert.ProjBPlainIdeal.main (F := Ideal))) ⟨m', fun _ => 0, g'⟩ (fun r => ∀ c : Dev Cert.ProjBPlainIdeal.nD,
          r.2.mem ((c.tc : Thread Cert.ProjBPlainIdeal.nD Cert.ProjBPlainIdeal.τ).loc Cert.ProjBPlainIdeal.main_v21) = v0 c
          ∧ r.2.mem ((c.tc : Thread Cert.ProjBPlainIdeal.nD Cert.ProjBPlainIdeal.τ).loc Cert.ProjBPlainIdeal.main_arg0) = m' ((c.tc : Thread Cert.ProjBPlainIdeal.nD Cert.ProjBPlainIdeal.τ).loc Cert.ProjBPlainIdeal.main_arg0)
          ∧ r.2.mem ((c.tc : Thread Cert.ProjBPlainIdeal.nD Cert.ProjBPlainIdeal.τ).loc Cert.ProjBPlainIdeal.main_arg1) = m' ((c.tc : Thread Cert.ProjBPlainIdeal.nD Cert.ProjBPlainIdeal.τ).loc Cert.ProjBPlainIdeal.main_arg1)
          ∧ r.2.mem ((c.tc : Thread Cert.ProjBPlainIdeal.nD Cert.ProjBPlainIdeal.τ).loc Cert.ProjBPlainIdeal.main_arg2) = m' ((c.tc : Thread Cert.ProjBPlainIdeal.nD Cert.ProjBPlainIdeal.τ).loc Cert.ProjBPlainIdeal.main_arg2))

def preserves_OutA_OutAIdeal : Prop :=
  True

def algebraic_OutAIdeal_OutAPlainIdeal [hOutAIdeal : Cert.OutAIdeal.Facts] [hOutAPlainIdeal : Cert.OutAPlainIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutAPlainIdeal.nD Cert.OutAPlainIdeal.τ Cert.OutAPlainIdeal.sig) → Buf (Elt Ideal) ℓ) (g' : Dev Cert.OutAPlainIdeal.nD → PrngReg), Pre_OutAIdeal m →
    (∀ c : Dev Cert.OutAIdeal.nD,
      m' ((c.tc : Thread Cert.OutAPlainIdeal.nD Cert.OutAPlainIdeal.τ).loc Cert.OutAPlainIdeal.main_arg0) = m ((c.tc : Thread Cert.OutAIdeal.nD Cert.OutAIdeal.τ).loc Cert.OutAIdeal.main_arg0)
      ∧ m' ((c.tc : Thread Cert.OutAPlainIdeal.nD Cert.OutAPlainIdeal.τ).loc Cert.OutAPlainIdeal.main_arg1) = m ((c.tc : Thread Cert.OutAIdeal.nD Cert.OutAIdeal.τ).loc Cert.OutAIdeal.main_arg1)
      ∧ m' ((c.tc : Thread Cert.OutAPlainIdeal.nD Cert.OutAPlainIdeal.τ).loc Cert.OutAPlainIdeal.main_arg2) = m ((c.tc : Thread Cert.OutAIdeal.nD Cert.OutAIdeal.τ).loc Cert.OutAIdeal.main_arg2)
      ∧ m' ((c.tc : Thread Cert.OutAPlainIdeal.nD Cert.OutAPlainIdeal.τ).loc Cert.OutAPlainIdeal.main_arg3) = m ((c.tc : Thread Cert.OutAIdeal.nD Cert.OutAIdeal.τ).loc Cert.OutAIdeal.main_arg3)
      ∧ m' ((c.tc : Thread Cert.OutAPlainIdeal.nD Cert.OutAPlainIdeal.τ).loc Cert.OutAPlainIdeal.main_arg4) = m ((c.tc : Thread Cert.OutAIdeal.nD Cert.OutAIdeal.τ).loc Cert.OutAIdeal.main_arg4)) →
    ∃ (v0 : (c : Dev Cert.OutAIdeal.nD) → Buf (Elt Ideal) ((c.tc : Thread Cert.OutAIdeal.nD Cert.OutAIdeal.τ).loc Cert.OutAIdeal.main_v3)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v3) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4))
      ∧ θ_run (Cert.OutAPlainIdeal.defs (F := Ideal)) (onTc (τ := Cert.OutAPlainIdeal.τ) (Cert.OutAPlainIdeal.main (F := Ideal))) ⟨m', fun _ => 0, g'⟩ (fun r => ∀ c : Dev Cert.OutAPlainIdeal.nD,
          r.2.mem ((c.tc : Thread Cert.OutAPlainIdeal.nD Cert.OutAPlainIdeal.τ).loc Cert.OutAPlainIdeal.main_v6) = v0 c
          ∧ r.2.mem ((c.tc : Thread Cert.OutAPlainIdeal.nD Cert.OutAPlainIdeal.τ).loc Cert.OutAPlainIdeal.main_arg0) = m' ((c.tc : Thread Cert.OutAPlainIdeal.nD Cert.OutAPlainIdeal.τ).loc Cert.OutAPlainIdeal.main_arg0)
          ∧ r.2.mem ((c.tc : Thread Cert.OutAPlainIdeal.nD Cert.OutAPlainIdeal.τ).loc Cert.OutAPlainIdeal.main_arg1) = m' ((c.tc : Thread Cert.OutAPlainIdeal.nD Cert.OutAPlainIdeal.τ).loc Cert.OutAPlainIdeal.main_arg1)
          ∧ r.2.mem ((c.tc : Thread Cert.OutAPlainIdeal.nD Cert.OutAPlainIdeal.τ).loc Cert.OutAPlainIdeal.main_arg2) = m' ((c.tc : Thread Cert.OutAPlainIdeal.nD Cert.OutAPlainIdeal.τ).loc Cert.OutAPlainIdeal.main_arg2)
          ∧ r.2.mem ((c.tc : Thread Cert.OutAPlainIdeal.nD Cert.OutAPlainIdeal.τ).loc Cert.OutAPlainIdeal.main_arg3) = m' ((c.tc : Thread Cert.OutAPlainIdeal.nD Cert.OutAPlainIdeal.τ).loc Cert.OutAPlainIdeal.main_arg3)
          ∧ r.2.mem ((c.tc : Thread Cert.OutAPlainIdeal.nD Cert.OutAPlainIdeal.τ).loc Cert.OutAPlainIdeal.main_arg4) = m' ((c.tc : Thread Cert.OutAPlainIdeal.nD Cert.OutAPlainIdeal.τ).loc Cert.OutAPlainIdeal.main_arg4))

def preserves_OutB_OutBIdeal : Prop :=
  True

def algebraic_OutBIdeal_OutBPlainIdeal [hOutBIdeal : Cert.OutBIdeal.Facts] [hOutBPlainIdeal : Cert.OutBPlainIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBPlainIdeal.nD Cert.OutBPlainIdeal.τ Cert.OutBPlainIdeal.sig) → Buf (Elt Ideal) ℓ) (g' : Dev Cert.OutBPlainIdeal.nD → PrngReg), Pre_OutBIdeal m →
    (∀ c : Dev Cert.OutBIdeal.nD,
      m' ((c.tc : Thread Cert.OutBPlainIdeal.nD Cert.OutBPlainIdeal.τ).loc Cert.OutBPlainIdeal.main_arg0) = m ((c.tc : Thread Cert.OutBIdeal.nD Cert.OutBIdeal.τ).loc Cert.OutBIdeal.main_arg0)
      ∧ m' ((c.tc : Thread Cert.OutBPlainIdeal.nD Cert.OutBPlainIdeal.τ).loc Cert.OutBPlainIdeal.main_arg1) = m ((c.tc : Thread Cert.OutBIdeal.nD Cert.OutBIdeal.τ).loc Cert.OutBIdeal.main_arg1)
      ∧ m' ((c.tc : Thread Cert.OutBPlainIdeal.nD Cert.OutBPlainIdeal.τ).loc Cert.OutBPlainIdeal.main_arg2) = m ((c.tc : Thread Cert.OutBIdeal.nD Cert.OutBIdeal.τ).loc Cert.OutBIdeal.main_arg2)
      ∧ m' ((c.tc : Thread Cert.OutBPlainIdeal.nD Cert.OutBPlainIdeal.τ).loc Cert.OutBPlainIdeal.main_arg3) = m ((c.tc : Thread Cert.OutBIdeal.nD Cert.OutBIdeal.τ).loc Cert.OutBIdeal.main_arg3)
      ∧ m' ((c.tc : Thread Cert.OutBPlainIdeal.nD Cert.OutBPlainIdeal.τ).loc Cert.OutBPlainIdeal.main_arg4) = m ((c.tc : Thread Cert.OutBIdeal.nD Cert.OutBIdeal.τ).loc Cert.OutBIdeal.main_arg4)) →
    ∃ (v0 : (c : Dev Cert.OutBIdeal.nD) → Buf (Elt Ideal) ((c.tc : Thread Cert.OutBIdeal.nD Cert.OutBIdeal.τ).loc Cert.OutBIdeal.main_v3)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v3) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
          ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4))
      ∧ θ_run (Cert.OutBPlainIdeal.defs (F := Ideal)) (onTc (τ := Cert.OutBPlainIdeal.τ) (Cert.OutBPlainIdeal.main (F := Ideal))) ⟨m', fun _ => 0, g'⟩ (fun r => ∀ c : Dev Cert.OutBPlainIdeal.nD,
          r.2.mem ((c.tc : Thread Cert.OutBPlainIdeal.nD Cert.OutBPlainIdeal.τ).loc Cert.OutBPlainIdeal.main_v6) = v0 c
          ∧ r.2.mem ((c.tc : Thread Cert.OutBPlainIdeal.nD Cert.OutBPlainIdeal.τ).loc Cert.OutBPlainIdeal.main_arg0) = m' ((c.tc : Thread Cert.OutBPlainIdeal.nD Cert.OutBPlainIdeal.τ).loc Cert.OutBPlainIdeal.main_arg0)
          ∧ r.2.mem ((c.tc : Thread Cert.OutBPlainIdeal.nD Cert.OutBPlainIdeal.τ).loc Cert.OutBPlainIdeal.main_arg1) = m' ((c.tc : Thread Cert.OutBPlainIdeal.nD Cert.OutBPlainIdeal.τ).loc Cert.OutBPlainIdeal.main_arg1)
          ∧ r.2.mem ((c.tc : Thread Cert.OutBPlainIdeal.nD Cert.OutBPlainIdeal.τ).loc Cert.OutBPlainIdeal.main_arg2) = m' ((c.tc : Thread Cert.OutBPlainIdeal.nD Cert.OutBPlainIdeal.τ).loc Cert.OutBPlainIdeal.main_arg2)
          ∧ r.2.mem ((c.tc : Thread Cert.OutBPlainIdeal.nD Cert.OutBPlainIdeal.τ).loc Cert.OutBPlainIdeal.main_arg3) = m' ((c.tc : Thread Cert.OutBPlainIdeal.nD Cert.OutBPlainIdeal.τ).loc Cert.OutBPlainIdeal.main_arg3)
          ∧ r.2.mem ((c.tc : Thread Cert.OutBPlainIdeal.nD Cert.OutBPlainIdeal.τ).loc Cert.OutBPlainIdeal.main_arg4) = m' ((c.tc : Thread Cert.OutBPlainIdeal.nD Cert.OutBPlainIdeal.τ).loc Cert.OutBPlainIdeal.main_arg4))

def preserves_Mem_MemIdeal : Prop :=
  True

def algebraic_MemIdeal_MemPlainIdeal_pre_finite_mem [hMemIdeal : Cert.MemIdeal.Facts] [hMemPlainIdeal : Cert.MemPlainIdeal.Facts] [hPre_finite_mem : Cert.Pre_finite_mem.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemPlainIdeal.nD Cert.MemPlainIdeal.τ Cert.MemPlainIdeal.sig) → Buf (Elt Ideal) ℓ) (g' : Dev Cert.MemPlainIdeal.nD → PrngReg), Pre_MemIdeal_finite_mem m →
    (∀ c : Dev Cert.MemIdeal.nD,
      m' ((c.tc : Thread Cert.MemPlainIdeal.nD Cert.MemPlainIdeal.τ).loc Cert.MemPlainIdeal.main_arg0) = m ((c.tc : Thread Cert.MemIdeal.nD Cert.MemIdeal.τ).loc Cert.MemIdeal.main_arg0)
      ∧ m' ((c.tc : Thread Cert.MemPlainIdeal.nD Cert.MemPlainIdeal.τ).loc Cert.MemPlainIdeal.main_arg1) = m ((c.tc : Thread Cert.MemIdeal.nD Cert.MemIdeal.τ).loc Cert.MemIdeal.main_arg1)
      ∧ m' ((c.tc : Thread Cert.MemPlainIdeal.nD Cert.MemPlainIdeal.τ).loc Cert.MemPlainIdeal.main_arg2) = m ((c.tc : Thread Cert.MemIdeal.nD Cert.MemIdeal.τ).loc Cert.MemIdeal.main_arg2)) →
    ∃ (v0 : (c : Dev Cert.MemIdeal.nD) → Buf (Elt Ideal) ((c.tc : Thread Cert.MemIdeal.nD Cert.MemIdeal.τ).loc Cert.MemIdeal.main_v0)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ θ_run (Cert.MemPlainIdeal.defs (F := Ideal)) (onTc (τ := Cert.MemPlainIdeal.τ) (Cert.MemPlainIdeal.main (F := Ideal))) ⟨m', fun _ => 0, g'⟩ (fun r => ∀ c : Dev Cert.MemPlainIdeal.nD,
          r.2.mem ((c.tc : Thread Cert.MemPlainIdeal.nD Cert.MemPlainIdeal.τ).loc Cert.MemPlainIdeal.main_v25) = v0 c
          ∧ r.2.mem ((c.tc : Thread Cert.MemPlainIdeal.nD Cert.MemPlainIdeal.τ).loc Cert.MemPlainIdeal.main_arg0) = m' ((c.tc : Thread Cert.MemPlainIdeal.nD Cert.MemPlainIdeal.τ).loc Cert.MemPlainIdeal.main_arg0)
          ∧ r.2.mem ((c.tc : Thread Cert.MemPlainIdeal.nD Cert.MemPlainIdeal.τ).loc Cert.MemPlainIdeal.main_arg1) = m' ((c.tc : Thread Cert.MemPlainIdeal.nD Cert.MemPlainIdeal.τ).loc Cert.MemPlainIdeal.main_arg1)
          ∧ r.2.mem ((c.tc : Thread Cert.MemPlainIdeal.nD Cert.MemPlainIdeal.τ).loc Cert.MemPlainIdeal.main_arg2) = m' ((c.tc : Thread Cert.MemPlainIdeal.nD Cert.MemPlainIdeal.τ).loc Cert.MemPlainIdeal.main_arg2))

def preserves_Kv_KvIdeal : Prop :=
  True

def algebraic_KvIdeal_KvPlainIdeal [hKvIdeal : Cert.KvIdeal.Facts] [hKvPlainIdeal : Cert.KvPlainIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvPlainIdeal.nD Cert.KvPlainIdeal.τ Cert.KvPlainIdeal.sig) → Buf (Elt Ideal) ℓ) (g' : Dev Cert.KvPlainIdeal.nD → PrngReg), Pre_KvIdeal m →
    (∀ c : Dev Cert.KvIdeal.nD,
      m' ((c.tc : Thread Cert.KvPlainIdeal.nD Cert.KvPlainIdeal.τ).loc Cert.KvPlainIdeal.main_arg0) = m ((c.tc : Thread Cert.KvIdeal.nD Cert.KvIdeal.τ).loc Cert.KvIdeal.main_arg0)
      ∧ m' ((c.tc : Thread Cert.KvPlainIdeal.nD Cert.KvPlainIdeal.τ).loc Cert.KvPlainIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2_0)) (v1 : (c : Dev Cert.KvIdeal.nD) → Buf (Elt Ideal) ((c.tc : Thread Cert.KvIdeal.nD Cert.KvIdeal.τ).loc Cert.KvIdeal.main_v2_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2_0) = v0 c
          ∧ r.2.mem ((c.tc : Thread Cert.KvIdeal.nD Cert.KvIdeal.τ).loc Cert.KvIdeal.main_v2_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvPlainIdeal.defs (F := Ideal)) (onTc (τ := Cert.KvPlainIdeal.τ) (Cert.KvPlainIdeal.main (F := Ideal))) ⟨m', fun _ => 0, g'⟩ (fun r => ∀ c : Dev Cert.KvPlainIdeal.nD,
          r.2.mem ((c.tc : Thread Cert.KvPlainIdeal.nD Cert.KvPlainIdeal.τ).loc Cert.KvPlainIdeal.main_v3) = v0 c
          ∧ r.2.mem ((c.tc : Thread Cert.KvPlainIdeal.nD Cert.KvPlainIdeal.τ).loc Cert.KvPlainIdeal.main_v4) = v1 c
          ∧ r.2.mem ((c.tc : Thread Cert.KvPlainIdeal.nD Cert.KvPlainIdeal.τ).loc Cert.KvPlainIdeal.main_arg0) = m' ((c.tc : Thread Cert.KvPlainIdeal.nD Cert.KvPlainIdeal.τ).loc Cert.KvPlainIdeal.main_arg0)
          ∧ r.2.mem ((c.tc : Thread Cert.KvPlainIdeal.nD Cert.KvPlainIdeal.τ).loc Cert.KvPlainIdeal.main_arg1) = m' ((c.tc : Thread Cert.KvPlainIdeal.nD Cert.KvPlainIdeal.τ).loc Cert.KvPlainIdeal.main_arg1))

def preserves_Norm_NormIdeal : Prop :=
  True

def algebraic_NormIdeal_NormPlainIdeal [hNormIdeal : Cert.NormIdeal.Facts] [hNormPlainIdeal : Cert.NormPlainIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormPlainIdeal.nD Cert.NormPlainIdeal.τ Cert.NormPlainIdeal.sig) → Buf (Elt Ideal) ℓ) (g' : Dev Cert.NormPlainIdeal.nD → PrngReg), Pre_NormIdeal m →
    (∀ c : Dev Cert.NormIdeal.nD,
      m' ((c.tc : Thread Cert.NormPlainIdeal.nD Cert.NormPlainIdeal.τ).loc Cert.NormPlainIdeal.main_arg0) = m ((c.tc : Thread Cert.NormIdeal.nD Cert.NormIdeal.τ).loc Cert.NormIdeal.main_arg0)
      ∧ m' ((c.tc : Thread Cert.NormPlainIdeal.nD Cert.NormPlainIdeal.τ).loc Cert.NormPlainIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormPlainIdeal.defs (F := Ideal)) (onTc (τ := Cert.NormPlainIdeal.τ) (Cert.NormPlainIdeal.main (F := Ideal))) ⟨m', fun _ => 0, g'⟩ (fun r => ∀ c : Dev Cert.NormPlainIdeal.nD,
          r.2.mem ((c.tc : Thread Cert.NormPlainIdeal.nD Cert.NormPlainIdeal.τ).loc Cert.NormPlainIdeal.main_v12) = v0 c
          ∧ r.2.mem ((c.tc : Thread Cert.NormPlainIdeal.nD Cert.NormPlainIdeal.τ).loc Cert.NormPlainIdeal.main_arg0) = m' ((c.tc : Thread Cert.NormPlainIdeal.nD Cert.NormPlainIdeal.τ).loc Cert.NormPlainIdeal.main_arg0)
          ∧ r.2.mem ((c.tc : Thread Cert.NormPlainIdeal.nD Cert.NormPlainIdeal.τ).loc Cert.NormPlainIdeal.main_arg1) = m' ((c.tc : Thread Cert.NormPlainIdeal.nD Cert.NormPlainIdeal.τ).loc Cert.NormPlainIdeal.main_arg1))

def Claim : Prop :=
  ∃ (hKernel : Cert.Kernel.Facts) (hKernelIdeal : Cert.KernelIdeal.Facts) (hKernelPlainIdeal : Cert.KernelPlainIdeal.Facts) (hProjA : Cert.ProjA.Facts) (hProjAIdeal : Cert.ProjAIdeal.Facts) (hProjAPlainIdeal : Cert.ProjAPlainIdeal.Facts) (hProjB : Cert.ProjB.Facts) (hProjBIdeal : Cert.ProjBIdeal.Facts) (hProjBPlainIdeal : Cert.ProjBPlainIdeal.Facts) (hOutA : Cert.OutA.Facts) (hOutAIdeal : Cert.OutAIdeal.Facts) (hOutAPlainIdeal : Cert.OutAPlainIdeal.Facts) (hOutB : Cert.OutB.Facts) (hOutBIdeal : Cert.OutBIdeal.Facts) (hOutBPlainIdeal : Cert.OutBPlainIdeal.Facts) (hMem : Cert.Mem.Facts) (hMemIdeal : Cert.MemIdeal.Facts) (hMemPlainIdeal : Cert.MemPlainIdeal.Facts) (hKv : Cert.Kv.Facts) (hKvIdeal : Cert.KvIdeal.Facts) (hKvPlainIdeal : Cert.KvPlainIdeal.Facts) (hNorm : Cert.Norm.Facts) (hNormIdeal : Cert.NormIdeal.Facts) (hNormPlainIdeal : Cert.NormPlainIdeal.Facts) (hPre_finite_mem : Cert.Pre_finite_mem.Facts),
    quiescent_Kernel (hKernel := hKernel)
    ∧ quiescent_KernelIdeal (hKernelIdeal := hKernelIdeal)
    ∧ quiescent_KernelPlainIdeal (hKernelPlainIdeal := hKernelPlainIdeal)
    ∧ quiescent_ProjA (hProjA := hProjA)
    ∧ quiescent_ProjAIdeal (hProjAIdeal := hProjAIdeal)
    ∧ quiescent_ProjAPlainIdeal (hProjAPlainIdeal := hProjAPlainIdeal)
    ∧ quiescent_ProjB (hProjB := hProjB)
    ∧ quiescent_ProjBIdeal (hProjBIdeal := hProjBIdeal)
    ∧ quiescent_ProjBPlainIdeal (hProjBPlainIdeal := hProjBPlainIdeal)
    ∧ quiescent_OutA (hOutA := hOutA)
    ∧ quiescent_OutAIdeal (hOutAIdeal := hOutAIdeal)
    ∧ quiescent_OutAPlainIdeal (hOutAPlainIdeal := hOutAPlainIdeal)
    ∧ quiescent_OutB (hOutB := hOutB)
    ∧ quiescent_OutBIdeal (hOutBIdeal := hOutBIdeal)
    ∧ quiescent_OutBPlainIdeal (hOutBPlainIdeal := hOutBPlainIdeal)
    ∧ quiescent_Mem (hMem := hMem)
    ∧ quiescent_MemIdeal (hMemIdeal := hMemIdeal)
    ∧ quiescent_MemIdeal_pre_finite_mem (hMemIdeal := hMemIdeal) (hPre_finite_mem := hPre_finite_mem)
    ∧ quiescent_MemPlainIdeal (hMemPlainIdeal := hMemPlainIdeal)
    ∧ quiescent_MemPlainIdeal_pre_finite_mem (hMemPlainIdeal := hMemPlainIdeal) (hPre_finite_mem := hPre_finite_mem)
    ∧ quiescent_Kv (hKv := hKv)
    ∧ quiescent_KvIdeal (hKvIdeal := hKvIdeal)
    ∧ quiescent_KvPlainIdeal (hKvPlainIdeal := hKvPlainIdeal)
    ∧ quiescent_Norm (hNorm := hNorm)
    ∧ quiescent_NormIdeal (hNormIdeal := hNormIdeal)
    ∧ quiescent_NormPlainIdeal (hNormPlainIdeal := hNormPlainIdeal)
    ∧ preserves_Kernel_KernelIdeal
    ∧ preserves_ProjA_ProjAIdeal
    ∧ algebraic_ProjAIdeal_ProjAPlainIdeal (hProjAIdeal := hProjAIdeal) (hProjAPlainIdeal := hProjAPlainIdeal)
    ∧ preserves_ProjB_ProjBIdeal
    ∧ algebraic_ProjBIdeal_ProjBPlainIdeal (hProjBIdeal := hProjBIdeal) (hProjBPlainIdeal := hProjBPlainIdeal)
    ∧ preserves_OutA_OutAIdeal
    ∧ algebraic_OutAIdeal_OutAPlainIdeal (hOutAIdeal := hOutAIdeal) (hOutAPlainIdeal := hOutAPlainIdeal)
    ∧ preserves_OutB_OutBIdeal
    ∧ algebraic_OutBIdeal_OutBPlainIdeal (hOutBIdeal := hOutBIdeal) (hOutBPlainIdeal := hOutBPlainIdeal)
    ∧ preserves_Mem_MemIdeal
    ∧ algebraic_MemIdeal_MemPlainIdeal_pre_finite_mem (hMemIdeal := hMemIdeal) (hMemPlainIdeal := hMemPlainIdeal) (hPre_finite_mem := hPre_finite_mem)
    ∧ preserves_Kv_KvIdeal
    ∧ algebraic_KvIdeal_KvPlainIdeal (hKvIdeal := hKvIdeal) (hKvPlainIdeal := hKvPlainIdeal)
    ∧ preserves_Norm_NormIdeal
    ∧ algebraic_NormIdeal_NormPlainIdeal (hNormIdeal := hNormIdeal) (hNormPlainIdeal := hNormPlainIdeal)
-- ==== Pre_finite_mem.lean ====
abbrev S16384x6144 : Shape := ⟨2, ![16384, 6144]⟩
abbrev S4x1024x512 : Shape := ⟨3, ![4, 1024, 512]⟩
abbrev S16384x512 : Shape := ⟨2, ![16384, 512]⟩
abbrev S_ : Shape := ⟨0, ![]⟩
abbrev S1x1024x512 : Shape := ⟨3, ![1, 1024, 512]⟩
abbrev S1024x512 : Shape := ⟨2, ![1024, 512]⟩

class Facts : Prop where
  slices_S16384x6144_S16384x512_0_4608 : S16384x6144.Slices ![0, 4608] S16384x512
  bcast_S_S16384x512 : S_.BroadcastsInDim S16384x512 (![] : Fin 0 → Fin S16384x512.rank)
  slices_S4x1024x512_S1x1024x512_0_0_0 : S4x1024x512.Slices ![0, 0, 0] S1x1024x512
  shapeCasts_S1x1024x512_S1024x512 : S1x1024x512.ShapeCasts S1024x512
  bcast_S_S1024x512 : S_.BroadcastsInDim S1024x512 (![] : Fin 0 → Fin S1024x512.rank)

variable [Facts]

def fn {F : FTy → Type} [FloatOps F] (main_arg0 : FVec F S16384x6144 .f32) (main_arg1 : FVec F S4x1024x512 .f32) (main_arg2 : FVec F S4x1024x512 .f32) : IVec S16384x512 1 × IVec S1024x512 1 :=
  let main_v0 : FVec F S16384x512 .f32 := (extractStridedSlice S16384x512 ![0, 4608] · slices_S16384x6144_S16384x512_0_4608) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S1x1024x512 .f32 := (extractStridedSlice S1x1024x512 ![0, 0, 0] · slices_S4x1024x512_S1x1024x512_0_0_0) main_arg1
  let main_v5 : FVec F S1024x512 .f32 := shapeCast S1024x512 main_v4 shapeCasts_S1x1024x512_S1024x512
  let main_v6 : FVec F S1024x512 .f32 := Host.absf main_v5
  let main_cst_0 : FVec F S_ .f32 := constant S_ .f32 0x7F800000#32
  let main_v7 : FVec F S1024x512 .f32 := broadcastInDim S1024x512 ![] bcast_S_S1024x512 main_cst_0
  let main_v8 : IVec S1024x512 1 := cmpf .olt main_v6 main_v7
  (main_v3, main_v8)
-- ==== Kernel.lean ====
abbrev S16384x6144 : Shape := ⟨2, ![16384, 6144]⟩
abbrev S3x4x128x256 : Shape := ⟨4, ![3, 4, 128, 256]⟩
abbrev S16384x512 : Shape := ⟨2, ![16384, 512]⟩
abbrev S2048x128 : Shape := ⟨2, ![2048, 128]⟩
abbrev S128x128 : Shape := ⟨2, ![128, 128]⟩
abbrev S1x1x128x256 : Shape := ⟨4, ![1, 1, 128, 256]⟩
abbrev S512x128 : Shape := ⟨2, ![512, 128]⟩
abbrev S3x2048x128 : Shape := ⟨3, ![3, 2048, 128]⟩
abbrev S6x2048x1 : Shape := ⟨3, ![6, 2048, 1]⟩
abbrev S1x1x128x128 : Shape := ⟨4, ![1, 1, 128, 128]⟩
abbrev S128 : Shape := ⟨1, ![128]⟩
abbrev S128x1 : Shape := ⟨2, ![128, 1]⟩
abbrev S1x128x128 : Shape := ⟨3, ![1, 128, 128]⟩
abbrev S1x128x1 : Shape := ⟨3, ![1, 128, 1]⟩
abbrev S1x256x1 : Shape := ⟨3, ![1, 256, 1]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 3
  | .vmem => 40
  | .smem => 0
  | _ => 0

abbrev bufTy : (tb : Table) → Fin (tcTables nBuf tb) → BufTy
  | .hbm, ⟨0, _⟩ => ⟨S16384x6144, .f32⟩
  | .hbm, ⟨1, _⟩ => ⟨S3x4x128x256, .f32⟩
  | .hbm, ⟨2, _⟩ => ⟨S16384x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x1x128x256, .f32⟩
  | .local _ .vmem, ⟨11, _⟩ => ⟨S1x1x128x256, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x1x128x256, .f32⟩
  | .local _ .vmem, ⟨23, _⟩ => ⟨S1x1x128x256, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S1x1x128x256, .f32⟩
  | .local _ .vmem, ⟨35, _⟩ => ⟨S1x1x128x256, .f32⟩
  | .local _ .vmem, ⟨36, _⟩ => ⟨S2048x128, .bf16⟩
  | .local _ .vmem, ⟨37, _⟩ => ⟨S2048x128, .bf16⟩
  | .local _ .vmem, ⟨38, _⟩ => ⟨S3x2048x128, .f32⟩
  | .local _ .vmem, ⟨39, _⟩ => ⟨S6x2048x1, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 arg2
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c12_i32 : BitVec 32 := 12#32
  let v2 : BitVec 32 := Scalar.addi c12_i32 arg2
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c24_i32 : BitVec 32 := 24#32
  let v2 : BitVec 32 := Scalar.addi c24_i32 arg2
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c12_i32 : BitVec 32 := 12#32
  let v5 : BitVec 32 := Scalar.addi c12_i32 arg2
  let c0_i32_0 : BitVec 32 := 0#32
  ![v4.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c24_i32 : BitVec 32 := 24#32
  let v5 : BitVec 32 := Scalar.addi c24_i32 arg2
  let c0_i32_0 : BitVec 32 := 0#32
  ![v4.toNat, v5.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.addi c4_i32 arg2
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.addi c16_i32 arg2
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c28_i32 : BitVec 32 := 28#32
  let v2 : BitVec 32 := Scalar.addi c28_i32 arg2
  let c0_i32 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c16_i32 : BitVec 32 := 16#32
  let v5 : BitVec 32 := Scalar.addi c16_i32 arg2
  let c0_i32_0 : BitVec 32 := 0#32
  ![v4.toNat, v5.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c28_i32 : BitVec 32 := 28#32
  let v5 : BitVec 32 := Scalar.addi c28_i32 arg2
  let c0_i32_0 : BitVec 32 := 0#32
  ![v4.toNat, v5.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg2.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.addi c8_i32 arg2
  let c0_i32 : BitVec 32 := 0#32
  ![v1.toNat, v2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c20_i32 : BitVec 32 := 20#32
  let v2 : BitVec 32 := Scalar.addi c20_i32 arg2
  let c0_i32 : BitVec 32 := 0#32
  ![v1.toNat, v2.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.addi c32_i32 arg2
  let c0_i32 : BitVec 32 := 0#32
  ![v1.toNat, v2.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.muli v1 c1_i32
  let c1_i32_0 : BitVec 32 := 1#32
  let v3 : BitVec 32 := Scalar.subi v2 c1_i32_0
  let c0_i32 : BitVec 32 := 0#32
  let v4 : BitVec 32 := Scalar.maxsi v3 c0_i32
  let c20_i32 : BitVec 32 := 20#32
  let v5 : BitVec 32 := Scalar.addi c20_i32 arg2
  let c0_i32_1 : BitVec 32 := 0#32
  ![v4.toNat, v5.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.muli v1 c1_i32
  let c1_i32_0 : BitVec 32 := 1#32
  let v3 : BitVec 32 := Scalar.subi v2 c1_i32_0
  let c0_i32 : BitVec 32 := 0#32
  let v4 : BitVec 32 := Scalar.maxsi v3 c0_i32
  let c32_i32 : BitVec 32 := 32#32
  let v5 : BitVec 32 := Scalar.addi c32_i32 arg2
  let c0_i32_1 : BitVec 32 := 0#32
  ![v4.toNat, v5.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, arg2.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, false, true]

abbrev stage0_18 : Fin 2 → Memref sig .tc .vmem S2048x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]
-- ==== KernelIdeal.lean ====
variable {F : FTy → Type} [FloatOps F] [Named F]
def κ : String → Option EReal := fun
  | "mask" => some ⊥
  | _ => none
-- ==== KernelPlainIdeal.lean ====
abbrev S16384x6144 : Shape := ⟨2, ![16384, 6144]⟩
abbrev S3x4x128x256 : Shape := ⟨4, ![3, 4, 128, 256]⟩
abbrev S16384x1536 : Shape := ⟨2, ![16384, 1536]⟩
abbrev S4x4096x3x4x128 : Shape := ⟨5, ![4, 4096, 3, 4, 128]⟩
abbrev S4x4096x1x4x128 : Shape := ⟨5, ![4, 4096, 1, 4, 128]⟩
abbrev S4x4096x4x128 : Shape := ⟨4, ![4, 4096, 4, 128]⟩
abbrev S1x4x128x256 : Shape := ⟨4, ![1, 4, 128, 256]⟩
abbrev S4x128x256 : Shape := ⟨3, ![4, 128, 256]⟩
abbrev S4x32x128x1x4x128 : Shape := ⟨6, ![4, 32, 128, 1, 4, 128]⟩
abbrev S_ : Shape := ⟨0, ![]⟩
abbrev S4x33x128x1x4x128 : Shape := ⟨6, ![4, 33, 128, 1, 4, 128]⟩
abbrev S4x32x256x1x4x128 : Shape := ⟨6, ![4, 32, 256, 1, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S4x32x1x4x128x256 : Shape := ⟨6, ![4, 32, 1, 4, 128, 256]⟩
abbrev S1x1x1x4x128x256 : Shape := ⟨6, ![1, 1, 1, 4, 128, 256]⟩
abbrev S1x32x1x1x128x256 : Shape := ⟨6, ![1, 32, 1, 1, 128, 256]⟩
abbrev S4x32x1x4x128 : Shape := ⟨5, ![4, 32, 1, 4, 128]⟩
abbrev S4x32x1x4x128x1 : Shape := ⟨6, ![4, 32, 1, 4, 128, 1]⟩
abbrev S4x32x1x4x128x128 : Shape := ⟨6, ![4, 32, 1, 4, 128, 128]⟩
abbrev S4x32x128x1x4 : Shape := ⟨5, ![4, 32, 128, 1, 4]⟩
abbrev S4x4096x4 : Shape := ⟨3, ![4, 4096, 4]⟩
abbrev S4x8x128x4x4x128 : Shape := ⟨6, ![4, 8, 128, 4, 4, 128]⟩
abbrev S4x9x128x4x4x128 : Shape := ⟨6, ![4, 9, 128, 4, 4, 128]⟩
abbrev S4x8x256x4x4x128 : Shape := ⟨6, ![4, 8, 256, 4, 4, 128]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S4x8x4x4x128x256 : Shape := ⟨6, ![4, 8, 4, 4, 128, 256]⟩
abbrev S1x8x1x1x128x256 : Shape := ⟨6, ![1, 8, 1, 1, 128, 256]⟩
abbrev S4x8x4x4x128 : Shape := ⟨5, ![4, 8, 4, 4, 128]⟩
abbrev S4x8x4x4x128x1 : Shape := ⟨6, ![4, 8, 4, 4, 128, 1]⟩
abbrev S4x8x4x4x128x128 : Shape := ⟨6, ![4, 8, 4, 4, 128, 128]⟩
abbrev S4x8x128x4x4 : Shape := ⟨5, ![4, 8, 128, 4, 4]⟩
abbrev S4x2x128x16x4x128 : Shape := ⟨6, ![4, 2, 128, 16, 4, 128]⟩
abbrev S4x3x128x16x4x128 : Shape := ⟨6, ![4, 3, 128, 16, 4, 128]⟩
abbrev S4x2x256x16x4x128 : Shape := ⟨6, ![4, 2, 256, 16, 4, 128]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S4x2x16x4x128x256 : Shape := ⟨6, ![4, 2, 16, 4, 128, 256]⟩
abbrev S1x2x1x1x128x256 : Shape := ⟨6, ![1, 2, 1, 1, 128, 256]⟩
abbrev S4x2x16x4x128 : Shape := ⟨5, ![4, 2, 16, 4, 128]⟩
abbrev S4x2x16x4x128x1 : Shape := ⟨6, ![4, 2, 16, 4, 128, 1]⟩
abbrev S4x2x16x4x128x128 : Shape := ⟨6, ![4, 2, 16, 4, 128, 128]⟩
abbrev S4x2x128x16x4 : Shape := ⟨5, ![4, 2, 128, 16, 4]⟩
abbrev S1x4x4096x4 : Shape := ⟨4, ![1, 4, 4096, 4]⟩
abbrev S3x4x4096x4 : Shape := ⟨4, ![3, 4, 4096, 4]⟩
abbrev S1x4x4096x4x128 : Shape := ⟨5, ![1, 4, 4096, 4, 128]⟩
abbrev S3x4x4096x4x128 : Shape := ⟨5, ![3, 4, 4096, 4, 128]⟩
abbrev S16384x512 : Shape := ⟨2, ![16384, 512]⟩

abbrev nBuf : Space → Nat
  | .hbm => 301
  | .vmem => 0
  | .smem => 0
  | _ => 0

abbrev hbmTy0_0 (i : Nat) : BufTy := match i % 128 with
  | 0 => ⟨S16384x6144, .f32⟩
  | 1 => ⟨S3x4x128x256, .f32⟩
  | 2 => ⟨S16384x1536, .f32⟩
  | 3 => ⟨S16384x1536, .f32⟩
  | 4 => ⟨S16384x1536, .f32⟩
  | 5 => ⟨S16384x1536, .f32⟩
  | 6 => ⟨S4x4096x3x4x128, .f32⟩
  | 7 => ⟨S4x4096x3x4x128, .f32⟩
  | 8 => ⟨S4x4096x3x4x128, .f32⟩
  | 9 => ⟨S4x4096x1x4x128, .f32⟩
  | 10 => ⟨S4x4096x4x128, .f32⟩
  | 11 => ⟨S4x4096x1x4x128, .f32⟩
  | 12 => ⟨S4x4096x4x128, .f32⟩
  | 13 => ⟨S4x4096x1x4x128, .f32⟩
  | 14 => ⟨S4x4096x4x128, .f32⟩
  | 15 => ⟨S1x4x128x256, .f32⟩
  | 16 => ⟨S4x128x256, .f32⟩
  | 17 => ⟨S4x32x128x1x4x128, .f32⟩
  | 18 => ⟨S4x32x128x1x4x128, .f32⟩
  | 19 => ⟨S4x32x128x1x4x128, .f32⟩
  | 20 => ⟨S_, .i32⟩
  | 21 => ⟨S_, .f32⟩
  | 22 => ⟨S4x33x128x1x4x128, .f32⟩
  | 23 => ⟨S4x32x128x1x4x128, .f32⟩
  | 24 => ⟨S4x32x256x1x4x128, .f32⟩
  | 25 => ⟨S_, .i32⟩
  | 26 => ⟨S_, .f32⟩
  | 27 => ⟨S4x33x128x1x4x128, .f32⟩
  | 28 => ⟨S4x32x128x1x4x128, .f32⟩
  | 29 => ⟨S4x32x256x1x4x128, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S32, .i32⟩
  | 48 => ⟨S32x1x1, .i32⟩
  | 49 => ⟨S1x128x256, .i1⟩
  | 50 => ⟨S_, .i32⟩
  | 51 => ⟨S32x1x1, .i32⟩
  | 52 => ⟨S32x1x1, .i32⟩
  | 53 => ⟨S1x1x256, .i32⟩
  | 54 => ⟨S32x1x256, .i32⟩
  | 55 => ⟨S32x1x256, .i32⟩
  | 56 => ⟨S32x1x256, .i32⟩
  | 57 => ⟨S_, .i32⟩
  | 58 => ⟨S32x1x256, .i32⟩
  | 59 => ⟨S32x1x256, .i32⟩
  | 60 => ⟨S_, .i32⟩
  | 61 => ⟨S32x1x256, .i32⟩
  | 62 => ⟨S32x1x256, .i1⟩
  | 63 => ⟨S32x128x256, .i1⟩
  | 64 => ⟨S32x128x256, .i1⟩
  | 65 => ⟨S32x128x256, .i1⟩
  | 66 => ⟨S4x32x1x4x128x256, .f32⟩
  | 67 => ⟨S_, .f32⟩
  | 68 => ⟨S4x32x1x4x128x256, .f32⟩
  | 69 => ⟨S4x32x1x4x128x256, .f32⟩
  | 70 => ⟨S1x1x1x4x128x256, .f32⟩
  | 71 => ⟨S4x32x1x4x128x256, .f32⟩
  | 72 => ⟨S4x32x1x4x128x256, .f32⟩
  | 73 => ⟨S1x32x1x1x128x256, .i1⟩
  | 74 => ⟨S_, .f32⟩
  | 75 => ⟨S_, .f32⟩
  | 76 => ⟨S4x32x1x4x128x256, .i1⟩
  | 77 => ⟨S4x32x1x4x128x256, .f32⟩
  | 78 => ⟨S4x32x1x4x128x256, .f32⟩
  | 79 => ⟨S_, .f32⟩
  | 80 => ⟨S4x32x1x4x128, .f32⟩
  | 81 => ⟨S4x32x1x4x128x1, .f32⟩
  | 82 => ⟨S4x32x1x4x128x256, .f32⟩
  | 83 => ⟨S4x32x1x4x128x256, .f32⟩
  | 84 => ⟨S4x32x1x4x128x256, .f32⟩
  | 85 => ⟨S_, .f32⟩
  | 86 => ⟨S4x32x1x4x128, .f32⟩
  | 87 => ⟨S4x32x1x4x128, .f32⟩
  | 88 => ⟨S4x32x1x4x128, .f32⟩
  | 89 => ⟨S4x32x1x4x128x1, .f32⟩
  | 90 => ⟨S4x32x1x4x128x256, .f32⟩
  | 91 => ⟨S4x32x1x4x128x256, .f32⟩
  | 92 => ⟨S4x32x1x4x128x256, .f32⟩
  | 93 => ⟨S4x32x1x4x128x128, .f32⟩
  | 94 => ⟨S4x32x128x1x4x128, .f32⟩
  | 95 => ⟨S4x4096x4x128, .f32⟩
  | 96 => ⟨S4x32x128x1x4, .f32⟩
  | 97 => ⟨S4x4096x4, .f32⟩
  | 98 => ⟨S4x4096x1x4x128, .f32⟩
  | 99 => ⟨S4x4096x4x128, .f32⟩
  | 100 => ⟨S4x4096x1x4x128, .f32⟩
  | 101 => ⟨S4x4096x4x128, .f32⟩
  | 102 => ⟨S4x4096x1x4x128, .f32⟩
  | 103 => ⟨S4x4096x4x128, .f32⟩
  | 104 => ⟨S1x4x128x256, .f32⟩
  | 105 => ⟨S4x128x256, .f32⟩
  | 106 => ⟨S4x8x128x4x4x128, .f32⟩
  | 107 => ⟨S4x8x128x4x4x128, .f32⟩
  | 108 => ⟨S4x8x128x4x4x128, .f32⟩
  | 109 => ⟨S_, .i32⟩
  | 110 => ⟨S_, .f32⟩
  | 111 => ⟨S4x9x128x4x4x128, .f32⟩
  | 112 => ⟨S4x8x128x4x4x128, .f32⟩
  | 113 => ⟨S4x8x256x4x4x128, .f32⟩
  | 114 => ⟨S_, .i32⟩
  | 115 => ⟨S_, .f32⟩
  | 116 => ⟨S4x9x128x4x4x128, .f32⟩
  | 117 => ⟨S4x8x128x4x4x128, .f32⟩
  | 118 => ⟨S4x8x256x4x4x128, .f32⟩
  | 119 => ⟨S128, .i32⟩
  | 120 => ⟨S128x1, .i32⟩
  | 121 => ⟨S256, .i32⟩
  | 122 => ⟨S1x256, .i32⟩
  | 123 => ⟨S_, .i32⟩
  | 124 => ⟨S128x1, .i32⟩
  | 125 => ⟨S128x1, .i32⟩
  | 126 => ⟨S128x256, .i32⟩
  | 127 => ⟨S128x256, .i32⟩
  | _ => ⟨S16384x6144, .f32⟩

abbrev hbmTy0_1 (i : Nat) : BufTy := match i % 128 with
  | 0 => ⟨S128x256, .i32⟩
  | 1 => ⟨S_, .i32⟩
  | 2 => ⟨S128x256, .i32⟩
  | 3 => ⟨S128x256, .i1⟩
  | 4 => ⟨S_, .i32⟩
  | 5 => ⟨S128x256, .i32⟩
  | 6 => ⟨S128x256, .i1⟩
  | 7 => ⟨S128x256, .i1⟩
  | 8 => ⟨S8, .i32⟩
  | 9 => ⟨S8x1x1, .i32⟩
  | 10 => ⟨S1x128x256, .i1⟩
  | 11 => ⟨S_, .i32⟩
  | 12 => ⟨S8x1x1, .i32⟩
  | 13 => ⟨S8x1x1, .i32⟩
  | 14 => ⟨S1x1x256, .i32⟩
  | 15 => ⟨S8x1x256, .i32⟩
  | 16 => ⟨S8x1x256, .i32⟩
  | 17 => ⟨S8x1x256, .i32⟩
  | 18 => ⟨S_, .i32⟩
  | 19 => ⟨S8x1x256, .i32⟩
  | 20 => ⟨S8x1x256, .i32⟩
  | 21 => ⟨S_, .i32⟩
  | 22 => ⟨S8x1x256, .i32⟩
  | 23 => ⟨S8x1x256, .i1⟩
  | 24 => ⟨S8x128x256, .i1⟩
  | 25 => ⟨S8x128x256, .i1⟩
  | 26 => ⟨S8x128x256, .i1⟩
  | 27 => ⟨S4x8x4x4x128x256, .f32⟩
  | 28 => ⟨S_, .f32⟩
  | 29 => ⟨S4x8x4x4x128x256, .f32⟩
  | 30 => ⟨S4x8x4x4x128x256, .f32⟩
  | 31 => ⟨S1x1x1x4x128x256, .f32⟩
  | 32 => ⟨S4x8x4x4x128x256, .f32⟩
  | 33 => ⟨S4x8x4x4x128x256, .f32⟩
  | 34 => ⟨S1x8x1x1x128x256, .i1⟩
  | 35 => ⟨S_, .f32⟩
  | 36 => ⟨S_, .f32⟩
  | 37 => ⟨S4x8x4x4x128x256, .i1⟩
  | 38 => ⟨S4x8x4x4x128x256, .f32⟩
  | 39 => ⟨S4x8x4x4x128x256, .f32⟩
  | 40 => ⟨S_, .f32⟩
  | 41 => ⟨S4x8x4x4x128, .f32⟩
  | 42 => ⟨S4x8x4x4x128x1, .f32⟩
  | 43 => ⟨S4x8x4x4x128x256, .f32⟩
  | 44 => ⟨S4x8x4x4x128x256, .f32⟩
  | 45 => ⟨S4x8x4x4x128x256, .f32⟩
  | 46 => ⟨S_, .f32⟩
  | 47 => ⟨S4x8x4x4x128, .f32⟩
  | 48 => ⟨S4x8x4x4x128, .f32⟩
  | 49 => ⟨S4x8x4x4x128, .f32⟩
  | 50 => ⟨S4x8x4x4x128x1, .f32⟩
  | 51 => ⟨S4x8x4x4x128x256, .f32⟩
  | 52 => ⟨S4x8x4x4x128x256, .f32⟩
  | 53 => ⟨S4x8x4x4x128x256, .f32⟩
  | 54 => ⟨S4x8x4x4x128x128, .f32⟩
  | 55 => ⟨S4x8x128x4x4x128, .f32⟩
  | 56 => ⟨S4x4096x4x128, .f32⟩
  | 57 => ⟨S4x8x128x4x4, .f32⟩
  | 58 => ⟨S4x4096x4, .f32⟩
  | 59 => ⟨S4x4096x1x4x128, .f32⟩
  | 60 => ⟨S4x4096x4x128, .f32⟩
  | 61 => ⟨S4x4096x1x4x128, .f32⟩
  | 62 => ⟨S4x4096x4x128, .f32⟩
  | 63 => ⟨S4x4096x1x4x128, .f32⟩
  | 64 => ⟨S4x4096x4x128, .f32⟩
  | 65 => ⟨S1x4x128x256, .f32⟩
  | 66 => ⟨S4x128x256, .f32⟩
  | 67 => ⟨S4x2x128x16x4x128, .f32⟩
  | 68 => ⟨S4x2x128x16x4x128, .f32⟩
  | 69 => ⟨S4x2x128x16x4x128, .f32⟩
  | 70 => ⟨S_, .i32⟩
  | 71 => ⟨S_, .f32⟩
  | 72 => ⟨S4x3x128x16x4x128, .f32⟩
  | 73 => ⟨S4x2x128x16x4x128, .f32⟩
  | 74 => ⟨S4x2x256x16x4x128, .f32⟩
  | 75 => ⟨S_, .i32⟩
  | 76 => ⟨S_, .f32⟩
  | 77 => ⟨S4x3x128x16x4x128, .f32⟩
  | 78 => ⟨S4x2x128x16x4x128, .f32⟩
  | 79 => ⟨S4x2x256x16x4x128, .f32⟩
  | 80 => ⟨S128, .i32⟩
  | 81 => ⟨S128x1, .i32⟩
  | 82 => ⟨S256, .i32⟩
  | 83 => ⟨S1x256, .i32⟩
  | 84 => ⟨S_, .i32⟩
  | 85 => ⟨S128x1, .i32⟩
  | 86 => ⟨S128x1, .i32⟩
  | 87 => ⟨S128x256, .i32⟩
  | 88 => ⟨S128x256, .i32⟩
  | 89 => ⟨S128x256, .i32⟩
  | 90 => ⟨S_, .i32⟩
  | 91 => ⟨S128x256, .i32⟩
  | 92 => ⟨S128x256, .i1⟩
  | 93 => ⟨S_, .i32⟩
  | 94 => ⟨S128x256, .i32⟩
  | 95 => ⟨S128x256, .i1⟩
  | 96 => ⟨S128x256, .i1⟩
  | 97 => ⟨S2, .i32⟩
  | 98 => ⟨S2x1x1, .i32⟩
  | 99 => ⟨S1x128x256, .i1⟩
  | 100 => ⟨S_, .i32⟩
  | 101 => ⟨S2x1x1, .i32⟩
  | 102 => ⟨S2x1x1, .i32⟩
  | 103 => ⟨S1x1x256, .i32⟩
  | 104 => ⟨S2x1x256, .i32⟩
  | 105 => ⟨S2x1x256, .i32⟩
  | 106 => ⟨S2x1x256, .i32⟩
  | 107 => ⟨S_, .i32⟩
  | 108 => ⟨S2x1x256, .i32⟩
  | 109 => ⟨S2x1x256, .i32⟩
  | 110 => ⟨S_, .i32⟩
  | 111 => ⟨S2x1x256, .i32⟩
  | 112 => ⟨S2x1x256, .i1⟩
  | 113 => ⟨S2x128x256, .i1⟩
  | 114 => ⟨S2x128x256, .i1⟩
  | 115 => ⟨S2x128x256, .i1⟩
  | 116 => ⟨S4x2x16x4x128x256, .f32⟩
  | 117 => ⟨S_, .f32⟩
  | 118 => ⟨S4x2x16x4x128x256, .f32⟩
  | 119 => ⟨S4x2x16x4x128x256, .f32⟩
  | 120 => ⟨S1x1x1x4x128x256, .f32⟩
  | 121 => ⟨S4x2x16x4x128x256, .f32⟩
  | 122 => ⟨S4x2x16x4x128x256, .f32⟩
  | 123 => ⟨S1x2x1x1x128x256, .i1⟩
  | 124 => ⟨S_, .f32⟩
  | 125 => ⟨S_, .f32⟩
  | 126 => ⟨S4x2x16x4x128x256, .i1⟩
  | 127 => ⟨S4x2x16x4x128x256, .f32⟩
  | _ => ⟨S16384x6144, .f32⟩

abbrev hbmTy0_2 (i : Nat) : BufTy := match i % 128 with
  | 0 => ⟨S4x2x16x4x128x256, .f32⟩
  | 1 => ⟨S_, .f32⟩
  | 2 => ⟨S4x2x16x4x128, .f32⟩
  | 3 => ⟨S4x2x16x4x128x1, .f32⟩
  | 4 => ⟨S4x2x16x4x128x256, .f32⟩
  | 5 => ⟨S4x2x16x4x128x256, .f32⟩
  | 6 => ⟨S4x2x16x4x128x256, .f32⟩
  | 7 => ⟨S_, .f32⟩
  | 8 => ⟨S4x2x16x4x128, .f32⟩
  | 9 => ⟨S4x2x16x4x128, .f32⟩
  | 10 => ⟨S4x2x16x4x128, .f32⟩
  | 11 => ⟨S4x2x16x4x128x1, .f32⟩
  | 12 => ⟨S4x2x16x4x128x256, .f32⟩
  | 13 => ⟨S4x2x16x4x128x256, .f32⟩
  | 14 => ⟨S4x2x16x4x128x256, .f32⟩
  | 15 => ⟨S4x2x16x4x128x128, .f32⟩
  | 16 => ⟨S4x2x128x16x4x128, .f32⟩
  | 17 => ⟨S4x4096x4x128, .f32⟩
  | 18 => ⟨S4x2x128x16x4, .f32⟩
  | 19 => ⟨S4x4096x4, .f32⟩
  | 20 => ⟨S1x4x4096x4, .f32⟩
  | 21 => ⟨S1x4x4096x4, .f32⟩
  | 22 => ⟨S1x4x4096x4, .f32⟩
  | 23 => ⟨S3x4x4096x4, .f32⟩
  | 24 => ⟨S_, .f32⟩
  | 25 => ⟨S4x4096x4, .f32⟩
  | 26 => ⟨S_, .f32⟩
  | 27 => ⟨S4x4096x4, .f32⟩
  | 28 => ⟨S4x4096x4, .f32⟩
  | 29 => ⟨S1x4x4096x4, .f32⟩
  | 30 => ⟨S3x4x4096x4, .f32⟩
  | 31 => ⟨S3x4x4096x4, .f32⟩
  | 32 => ⟨S3x4x4096x4, .f32⟩
  | 33 => ⟨S_, .f32⟩
  | 34 => ⟨S4x4096x4, .f32⟩
  | 35 => ⟨S1x4x4096x4, .f32⟩
  | 36 => ⟨S3x4x4096x4, .f32⟩
  | 37 => ⟨S3x4x4096x4, .f32⟩
  | 38 => ⟨S1x4x4096x4x128, .f32⟩
  | 39 => ⟨S1x4x4096x4x128, .f32⟩
  | 40 => ⟨S1x4x4096x4x128, .f32⟩
  | 41 => ⟨S3x4x4096x4x128, .f32⟩
  | 42 => ⟨S4x4096x4x128, .f32⟩
  | 43 => ⟨S16384x512, .f32⟩
  | 44 => ⟨S16384x512, .bf16⟩
  | _ => ⟨S16384x6144, .f32⟩

abbrev hbmTy (i : Nat) : BufTy := match i / 128 with
  | 0 => hbmTy0_0 i
  | 1 => hbmTy0_1 i
  | 2 => hbmTy0_2 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_call0_v0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_call1_v0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_5 : Ref sig .tc := ⟨.hbm, 57, rfl⟩
abbrev main_v47 : Ref sig .tc := ⟨.hbm, 58, rfl⟩
abbrev main_v48 : Ref sig .tc := ⟨.hbm, 59, rfl⟩
abbrev main_c_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_c_10 : Ref sig .tc := ⟨.hbm, 109, rfl⟩
abbrev main_call3_v0 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_c_11 : Ref sig .tc := ⟨.hbm, 114, rfl⟩
abbrev main_call4_v0 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_c_12 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c_13 : Ref sig .tc := ⟨.hbm, 129, rfl⟩
abbrev main_v105 : Ref sig .tc := ⟨.hbm, 130, rfl⟩
abbrev main_v106 : Ref sig .tc := ⟨.hbm, 131, rfl⟩
abbrev main_c_14 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_15 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_c_16 : Ref sig .tc := ⟨.hbm, 146, rfl⟩
abbrev main_v119 : Ref sig .tc := ⟨.hbm, 147, rfl⟩
abbrev main_v120 : Ref sig .tc := ⟨.hbm, 148, rfl⟩
abbrev main_c_17 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_18 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_19 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_v133 : Ref sig .tc := ⟨.hbm, 167, rfl⟩
abbrev main_cst_20 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_21 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_c_22 : Ref sig .tc := ⟨.hbm, 198, rfl⟩
abbrev main_call6_v0 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_c_23 : Ref sig .tc := ⟨.hbm, 203, rfl⟩
abbrev main_call7_v0 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_c_24 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_c_25 : Ref sig .tc := ⟨.hbm, 218, rfl⟩
abbrev main_v177 : Ref sig .tc := ⟨.hbm, 219, rfl⟩
abbrev main_v178 : Ref sig .tc := ⟨.hbm, 220, rfl⟩
abbrev main_c_26 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_c_27 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_c_28 : Ref sig .tc := ⟨.hbm, 235, rfl⟩
abbrev main_v191 : Ref sig .tc := ⟨.hbm, 236, rfl⟩
abbrev main_v192 : Ref sig .tc := ⟨.hbm, 237, rfl⟩
abbrev main_c_29 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_cst_30 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_31 : Ref sig .tc := ⟨.hbm, 252, rfl⟩
abbrev main_call8_v0 : Ref sig .tc := ⟨.hbm, 253, rfl⟩
abbrev main_call8_v1 : Ref sig .tc := ⟨.hbm, 254, rfl⟩
abbrev main_call8_v2 : Ref sig .tc := ⟨.hbm, 255, rfl⟩
abbrev main_v205 : Ref sig .tc := ⟨.hbm, 256, rfl⟩
abbrev main_cst_32 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_cst_33 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_cst_34 : Ref sig .tc := ⟨.hbm, 280, rfl⟩
abbrev main_v227 : Ref sig .tc := ⟨.hbm, 281, rfl⟩
abbrev main_cst_35 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_cst_36 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩

abbrev nD : Nat := 1
abbrev τ : Topo := Topo.v7x

variable {F : FTy → Type} [FloatOps F]
-- ==== ProjA.lean ====
abbrev S4x4096x1024 : Shape := ⟨3, ![4, 4096, 1024]⟩
abbrev S1024 : Shape := ⟨1, ![1024]⟩
abbrev S1024x6144 : Shape := ⟨2, ![1024, 6144]⟩
abbrev S16384x1024 : Shape := ⟨2, ![16384, 1024]⟩
abbrev S1x1024 : Shape := ⟨2, ![1, 1024]⟩
abbrev S16384x6144 : Shape := ⟨2, ![16384, 6144]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S16384x1024, .f32⟩
  | .hbm, ⟨4, _⟩ => ⟨S1x1024, .f32⟩
  | .hbm, ⟨5, _⟩ => ⟨S1024x6144, .bf16⟩
  | .hbm, ⟨6, _⟩ => ⟨S16384x6144, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .f32⟩
  | .local _ .vmem, ⟨6, _⟩ => ⟨S2048x1024, .f32⟩
  | .local _ .vmem, ⟨7, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjAPlainIdeal.lean ====
abbrev S4x4096x1024 : Shape := ⟨3, ![4, 4096, 1024]⟩
abbrev S1024 : Shape := ⟨1, ![1024]⟩
abbrev S1024x6144 : Shape := ⟨2, ![1024, 6144]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6144 : Shape := ⟨3, ![4, 4096, 6144]⟩
abbrev S16384x6144 : Shape := ⟨2, ![16384, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x6144, .f32⟩
  | .hbm, ⟨20, _⟩ => ⟨S16384x6144, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjB.lean ====
abbrev S4x4096x1024 : Shape := ⟨3, ![4, 4096, 1024]⟩
abbrev S1024 : Shape := ⟨1, ![1024]⟩
abbrev S1024x5136 : Shape := ⟨2, ![1024, 5136]⟩
abbrev S16384x1024 : Shape := ⟨2, ![16384, 1024]⟩
abbrev S1x1024 : Shape := ⟨2, ![1, 1024]⟩
abbrev S1024x3072 : Shape := ⟨2, ![1024, 3072]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x5376 : Shape := ⟨2, ![1024, 5376]⟩
abbrev S16384x5376 : Shape := ⟨2, ![16384, 5376]⟩
abbrev S1024x1024 : Shape := ⟨2, ![1024, 1024]⟩
abbrev S1024x1792 : Shape := ⟨2, ![1024, 1792]⟩
abbrev S1024x1 : Shape := ⟨2, ![1024, 1]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5136, .f32⟩
  | .hbm, ⟨3, _⟩ => ⟨S16384x1024, .f32⟩
  | .hbm, ⟨4, _⟩ => ⟨S1x1024, .f32⟩
  | .hbm, ⟨5, _⟩ => ⟨S1024x3072, .f32⟩
  | .hbm, ⟨6, _⟩ => ⟨S1024x1536, .f32⟩
  | .hbm, ⟨7, _⟩ => ⟨S1024x512, .f32⟩
  | .hbm, ⟨8, _⟩ => ⟨S1024x8, .f32⟩
  | .hbm, ⟨9, _⟩ => ⟨S1024x8, .f32⟩
  | .hbm, ⟨10, _⟩ => ⟨S1024x5136, .f32⟩
  | .hbm, ⟨11, _⟩ => ⟨S_, .i32⟩
  | .hbm, ⟨12, _⟩ => ⟨S_, .f32⟩
  | .hbm, ⟨13, _⟩ => ⟨S1024x5376, .f32⟩
  | .hbm, ⟨14, _⟩ => ⟨S1024x5376, .bf16⟩
  | .hbm, ⟨15, _⟩ => ⟨S16384x5376, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjBPlainIdeal.lean ====
abbrev S4x4096x1024 : Shape := ⟨3, ![4, 4096, 1024]⟩
abbrev S1024 : Shape := ⟨1, ![1024]⟩
abbrev S1024x5136 : Shape := ⟨2, ![1024, 5136]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5136 : Shape := ⟨3, ![4, 4096, 5136]⟩
abbrev S16384x5136 : Shape := ⟨2, ![16384, 5136]⟩
abbrev S16384x3072 : Shape := ⟨2, ![16384, 3072]⟩
abbrev S16384x8 : Shape := ⟨2, ![16384, 8]⟩
abbrev S16384x512 : Shape := ⟨2, ![16384, 512]⟩
abbrev S16384x1536 : Shape := ⟨2, ![16384, 1536]⟩
abbrev S16384x240 : Shape := ⟨2, ![16384, 240]⟩
abbrev S16384x5376 : Shape := ⟨2, ![16384, 5376]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5136, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x5136, .f32⟩
  | .hbm, ⟨20, _⟩ => ⟨S16384x5136, .f32⟩
  | .hbm, ⟨21, _⟩ => ⟨S16384x3072, .f32⟩
  | .hbm, ⟨22, _⟩ => ⟨S16384x8, .f32⟩
  | .hbm, ⟨23, _⟩ => ⟨S16384x8, .f32⟩
  | .hbm, ⟨24, _⟩ => ⟨S16384x512, .f32⟩
  | .hbm, ⟨25, _⟩ => ⟨S16384x1536, .f32⟩
  | .hbm, ⟨26, _⟩ => ⟨S_, .f32⟩
  | .hbm, ⟨27, _⟩ => ⟨S16384x240, .f32⟩
  | .hbm, ⟨28, _⟩ => ⟨S16384x5376, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== OutA.lean ====
abbrev S16384x512 : Shape := ⟨2, ![16384, 512]⟩
abbrev S16384x6144 : Shape := ⟨2, ![16384, 6144]⟩
abbrev S16384x1024 : Shape := ⟨2, ![16384, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x6144, .f32⟩
  | .hbm, ⟨3, _⟩ => ⟨S16384x1024, .f32⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutAPlainIdeal.lean ====
abbrev S16384x512 : Shape := ⟨2, ![16384, 512]⟩
abbrev S16384x6144 : Shape := ⟨2, ![16384, 6144]⟩
abbrev S16384x1024 : Shape := ⟨2, ![16384, 1024]⟩
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x6144, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== OutB.lean ====
abbrev S16384x1024 : Shape := ⟨2, ![16384, 1024]⟩
abbrev S16384x512 : Shape := ⟨2, ![16384, 512]⟩
abbrev S16384x5376 : Shape := ⟨2, ![16384, 5376]⟩
abbrev S1536x1024 : Shape := ⟨2, ![1536, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x5376, .f32⟩
  | .hbm, ⟨3, _⟩ => ⟨S16384x1024, .f32⟩
  | .hbm, ⟨4, _⟩ => ⟨S1536x1024, .f32⟩
  | .hbm, ⟨5, _⟩ => ⟨S1536x1024, .bf16⟩
  | .hbm, ⟨6, _⟩ => ⟨S1024x1024, .bf16⟩
  | .hbm, ⟨7, _⟩ => ⟨S512x1024, .bf16⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutBPlainIdeal.lean ====
abbrev S16384x1024 : Shape := ⟨2, ![16384, 1024]⟩
abbrev S16384x512 : Shape := ⟨2, ![16384, 512]⟩
abbrev S16384x5376 : Shape := ⟨2, ![16384, 5376]⟩
abbrev S1536x1024 : Shape := ⟨2, ![1536, 1024]⟩
abbrev S16384x1536 : Shape := ⟨2, ![16384, 1536]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x5376, .f32⟩
  | .hbm, ⟨3, _⟩ => ⟨S16384x1024, .f32⟩
  | .hbm, ⟨4, _⟩ => ⟨S1536x1024, .f32⟩
  | .hbm, ⟨5, _⟩ => ⟨S16384x1536, .f32⟩
  | .hbm, ⟨6, _⟩ => ⟨S16384x1536, .bf16⟩
  | .hbm, ⟨7, _⟩ => ⟨S16384x1536, .f32⟩
  | .hbm, ⟨8, _⟩ => ⟨S16384x1536, .f32⟩
  | .hbm, ⟨9, _⟩ => ⟨S16384x1536, .f32⟩
  | .hbm, ⟨10, _⟩ => ⟨S_, .f32⟩
  | .hbm, ⟨11, _⟩ => ⟨S16384x1536, .f32⟩
  | .hbm, ⟨12, _⟩ => ⟨S16384x1536, .f32⟩
  | .hbm, ⟨13, _⟩ => ⟨S_, .f32⟩
  | .hbm, ⟨14, _⟩ => ⟨S16384x1536, .f32⟩
  | .hbm, ⟨15, _⟩ => ⟨S16384x1536, .f32⟩
  | .hbm, ⟨16, _⟩ => ⟨S16384x1536, .f32⟩
  | .hbm, ⟨17, _⟩ => ⟨S16384x1536, .f32⟩
  | .hbm, ⟨18, _⟩ => ⟨S16384x1024, .f32⟩
  | .hbm, ⟨19, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Mem.lean ====
abbrev S16384x6144 : Shape := ⟨2, ![16384, 6144]⟩
abbrev S4x1024x512 : Shape := ⟨3, ![4, 1024, 512]⟩
abbrev S16384x512 : Shape := ⟨2, ![16384, 512]⟩
abbrev S512x512 : Shape := ⟨2, ![512, 512]⟩
abbrev S1x256x512 : Shape := ⟨3, ![1, 256, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x6144, .f32⟩
  | .hbm, ⟨1, _⟩ => ⟨S4x1024x512, .f32⟩
  | .hbm, ⟨2, _⟩ => ⟨S4x1024x512, .f32⟩
  | .hbm, ⟨3, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S512x512, .bf16⟩
  | .local _ .vmem, ⟨7, _⟩ => ⟨S512x512, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemPlainIdeal.lean ====
abbrev S16384x6144 : Shape := ⟨2, ![16384, 6144]⟩
abbrev S4x1024x512 : Shape := ⟨3, ![4, 1024, 512]⟩
abbrev S16384x512 : Shape := ⟨2, ![16384, 512]⟩
abbrev S4x4096x4x128 : Shape := ⟨4, ![4, 4096, 4, 128]⟩
abbrev S1x1024x512 : Shape := ⟨3, ![1, 1024, 512]⟩
abbrev S1024x512 : Shape := ⟨2, ![1024, 512]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S4x1024x512, .f32⟩
  | .hbm, ⟨2, _⟩ => ⟨S4x1024x512, .f32⟩
  | .hbm, ⟨3, _⟩ => ⟨S16384x512, .f32⟩
  | .hbm, ⟨4, _⟩ => ⟨S4x4096x4x128, .f32⟩
  | .hbm, ⟨5, _⟩ => ⟨S1x1024x512, .f32⟩
  | .hbm, ⟨6, _⟩ => ⟨S1024x512, .f32⟩
  | .hbm, ⟨7, _⟩ => ⟨S4x256x4x128, .f32⟩
  | .hbm, ⟨8, _⟩ => ⟨S1x1024x512, .f32⟩
  | .hbm, ⟨9, _⟩ => ⟨S1024x512, .f32⟩
  | .hbm, ⟨10, _⟩ => ⟨S4x256x4x128, .f32⟩
  | .hbm, ⟨11, _⟩ => ⟨S4x4x4096x256, .f32⟩
  | .hbm, ⟨12, _⟩ => ⟨S_, .f32⟩
  | .hbm, ⟨13, _⟩ => ⟨S4x4x4096x256, .f32⟩
  | .hbm, ⟨14, _⟩ => ⟨S4x4x4096x256, .f32⟩
  | .hbm, ⟨15, _⟩ => ⟨S_, .f32⟩
  | .hbm, ⟨16, _⟩ => ⟨S4x4x4096, .f32⟩
  | .hbm, ⟨17, _⟩ => ⟨S_, .f32⟩
  | .hbm, ⟨18, _⟩ => ⟨S4x4x4096, .f32⟩
  | .hbm, ⟨19, _⟩ => ⟨S4x4x4096, .f32⟩
  | .hbm, ⟨20, _⟩ => ⟨S4x4x4096x1, .f32⟩
  | .hbm, ⟨21, _⟩ => ⟨S4x4x4096x256, .f32⟩
  | .hbm, ⟨22, _⟩ => ⟨S4x4x4096x256, .f32⟩
  | .hbm, ⟨23, _⟩ => ⟨S4x4x4096x256, .f32⟩
  | .hbm, ⟨24, _⟩ => ⟨S_, .f32⟩
  | .hbm, ⟨25, _⟩ => ⟨S4x4x4096, .f32⟩
  | .hbm, ⟨26, _⟩ => ⟨S4x4x4096x1, .f32⟩
  | .hbm, ⟨27, _⟩ => ⟨S4x4x4096x256, .f32⟩
  | .hbm, ⟨28, _⟩ => ⟨S4x4x4096x256, .f32⟩
  | .hbm, ⟨29, _⟩ => ⟨S4x4x128x4096, .f32⟩
  | .hbm, ⟨30, _⟩ => ⟨S4x4096x4x128, .f32⟩
  | .hbm, ⟨31, _⟩ => ⟨S16384x512, .f32⟩
  | .hbm, ⟨32, _⟩ => ⟨S16384x512, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kv.lean ====
abbrev S4x256x1024 : Shape := ⟨3, ![4, 256, 1024]⟩
abbrev S4x1024x1024 : Shape := ⟨3, ![4, 1024, 1024]⟩
abbrev S1024x1024 : Shape := ⟨2, ![1024, 1024]⟩
abbrev S4x1024x512 : Shape := ⟨3, ![4, 1024, 512]⟩
abbrev S1x1024x1024 : Shape := ⟨3, ![1, 1024, 1024]⟩
abbrev S1x1024x512 : Shape := ⟨3, ![1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S4x1024x1024, .f32⟩
  | .hbm, ⟨2, _⟩ => ⟨S1024x1024, .f32⟩
  | .hbm, ⟨3, _⟩ => ⟨S4x1024x1024, .bf16⟩
  | .hbm, ⟨4, _⟩ => ⟨S4x1024x512, .f32⟩
  | .hbm, ⟨5, _⟩ => ⟨S4x1024x512, .f32⟩
  | .local _ .vmem, ⟨0, _⟩ => ⟨S1024x1024, .f32⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvPlainIdeal.lean ====
abbrev S4x256x1024 : Shape := ⟨3, ![4, 256, 1024]⟩
abbrev S4x1024x1024 : Shape := ⟨3, ![4, 1024, 1024]⟩
abbrev S4x1024x4x256 : Shape := ⟨4, ![4, 1024, 4, 256]⟩
abbrev S4x4x256x1024 : Shape := ⟨4, ![4, 4, 256, 1024]⟩
abbrev S4x1024x512 : Shape := ⟨3, ![4, 1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1024x1024, .f32⟩
  | .hbm, ⟨2, _⟩ => ⟨S4x1024x4x256, .f32⟩
  | .hbm, ⟨3, _⟩ => ⟨S4x4x256x1024, .f32⟩
  | .hbm, ⟨4, _⟩ => ⟨S4x1024x1024, .f32⟩
  | .hbm, ⟨5, _⟩ => ⟨S4x1024x512, .f32⟩
  | .hbm, ⟨6, _⟩ => ⟨S4x1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPlainIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.ProjAValue.lean ====
module

public import proofs.«01_k».proof.Proof.Gen.ProjAIdeal.Frame
public import proofs.«01_k».proof.Proof.Gen.ProjAPlainIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjAIdeal.Result

open Cert.ProjAIdeal Cert.ProjAIdeal.Gen Cert.ProjAPlainIdeal.Read

variable (m : (ℓ : Loc nD τ sig) → Buf (Elt Ideal) ℓ)

/-- The block each window holds at a point: a tile of rows, the weight of the norm, a tile of columns. -/
theorem idx : ∀ t : Fin cfg0.N, win0_0.index t = ![t.val / 6, 0] ∧ win0_1.index t = ![0, 0] ∧ win0_2.index t = ![0, t.val % 6]
    ∧ win0_3.index t = ![t.val / 6, t.val % 6] :=
  (by decide +kernel : ∀ t : Fin grid0.N, _)

/-- The grid has this many points. -/
theorem pt_lt (t : Fin cfg0.N) : t.val < 48 := Nat.lt_of_lt_of_eq t.isLt N_0

/-- The array row that row `r` of the tile at point `t` is. -/
abbrev row (t : Fin cfg0.N) (r : Fin 2048) : Fin 16384 := ⟨2048 * (t.val / 6) + r.val, by have := pt_lt t; omega⟩

/-- The array column that column `e` of the tile at point `t` is. -/
abbrev col (t : Fin cfg0.N) (e : Fin 1024) : Fin 6144 := ⟨1024 * (t.val % 6) + e.val, by have := pt_lt t; omega⟩

/-- The rows the body reads at a point. -/
theorem blk0 (c : Dev nD) (t : Fin cfg0.N) (r : Fin 2048) (k : Fin 1024) : iblk m c 0 t (ix2 r k)
    = m ((c : Thread nD τ).loc main_arg0) (ix3 (⟨(row t r).val / 4096, by have := (row t r).isLt; omega⟩ : Fin 4)
        (⟨(row t r).val % 4096, by omega⟩ : Fin 4096) k) := by
  blk_simp [iblk]; entry_read; pointwise; blk_ext [idx t]

/-- The norm's weight, at every point. -/
theorem blk1 (c : Dev nD) (t : Fin cfg0.N) (k : Fin 1024) : iblk m c 1 t (ix2 (0 : Fin 1) k)
    = m ((c : Thread nD τ).loc main_arg1) (ix1 k) := by
  blk_simp [iblk]; entry_read; pointwise; blk_ext [idx t]

/-- At the first tile of columns the body normalises its rows, keeps them in the scratch buffer and multiplies. -/
theorem first (c : Dev nD) (t : Fin cfg0.N) (h : t.val % 6 = 0) : (outsAt0 m c t.val t.isLt).2 = k0_pay1 (iblk m c 0 t) (iblk m c 1 t)
   ∧ (outsAt0 m c t.val t.isLt).1 = k0_pay2 (k0_pay1 (iblk m c 0 t) (iblk m c 1 t)) (iblk m c 2 t) := by
  rw [outsAt0_A m c t h]
  constructor
  · dsimp only
    frame_out
  · dsimp only
    frame_out

/-- At a later tile of columns the scratch buffer is the one the point before left. -/
theorem later (c : Dev nD) (t : Fin cfg0.N) (h : ¬ t.val % 6 = 0) :
    (outsAt0 m c t.val t.isLt).2 = (outsAt0 m c (t.val - 1) (by have := t.isLt; omega)).2
   ∧ (outsAt0 m c t.val t.isLt).1 = k0_pay2 (outsAt0 m c (t.val - 1) (by have := t.isLt; omega)).2 (iblk m c 2 t) := by
  rw [outsAt0_B m c t h]
  constructor
  · dsimp only
    unfold sout0_B_0
    rfl
  · dsimp only
    frame_out
    exact congrArg (k0_pay2 · _) (Memref.IsWhole.read_unread _ _)

/-- After every point the scratch buffer holds the normalised rows of its tile, and the result block their product with the tile
    of columns. -/
theorem held (c : Dev nD) : ∀ (n : ℕ) (h : n < cfg0.N), (outsAt0 m c n h).2 = k0_pay1 (iblk m c 0 ⟨n, h⟩) (iblk m c 1 ⟨n, h⟩)
  | 0, h => (first m c ⟨0, h⟩ rfl).1
  | n + 1, h => by
    by_cases h0 : (n + 1) % 6 = 0
    · exact (first m c ⟨n + 1, h⟩ h0).1
    · refine ((later m c ⟨n + 1, h⟩ h0).1.trans (held c n (Nat.lt_of_succ_lt h))).trans ?_
      have e0 : iblk m c 0 ⟨n, Nat.lt_of_succ_lt h⟩ = iblk m c 0 ⟨n + 1, h⟩ := by
        funext y
        idx_vars y
        have hd : n / 6 = (n + 1) / 6 := by omega
        rw [blk0, blk0]
        simp only [hd]
      have e1 : iblk m c 1 ⟨n, Nat.lt_of_succ_lt h⟩ = iblk m c 1 ⟨n + 1, h⟩ := by
        funext y
        idx_vars y
        obtain rfl : y0 = 0 := Subsingleton.elim _ _
        rw [blk1, blk1]
      rw [e0, e1]

/-- What the body stores at a point. -/
theorem stored (c : Dev nD) (t : Fin cfg0.N) : (outsAt0 m c t.val t.isLt).1 = k0_pay2 (k0_pay1 (iblk m c 0 t) (iblk m c 1 t)) (iblk m c 2 t) := by
  by_cases h0 : t.val % 6 = 0
  · exact (first m c t h0).2
  · rw [(later m c t h0).2, ← (later m c t h0).1, held m c t.val t.isLt]

/-- The columns of the weights the body reads at a point. -/
theorem blk2 (c : Dev nD) (t : Fin cfg0.N) (k : Fin 1024) (e : Fin 1024) : iblk m c 2 t (ix2 k e)
    = m ((c : Thread nD τ).loc main_arg2) (ix2 k (col t e)) := by
  blk_simp [iblk]; entry_read; pointwise; blk_ext [idx t]

set_option maxHeartbeats 1600000 in
/-- One entry of the projection: the normalised row times a column of the weights. -/
theorem core (X0 : FVec Ideal S2048x1024 .f32) (X1 : FVec Ideal S1x1024 .f32) (X2 : FVec Ideal S1024x1024 .bf16)
    (A0 : FVec Ideal S4x4096x1024 .f32) (A1 : FVec Ideal S1024 .f32) (A2 : FVec Ideal S1024x6144 .f32)
    (r : Fin 2048) (R : Fin 16384) (e : Fin 1024) (E : Fin 6144)
    (h0 : ∀ k : Fin 1024, X0 (ix2 r k) = A0 (ix3 (⟨R.val / 4096, by omega⟩ : Fin 4) (⟨R.val % 4096, by omega⟩ : Fin 4096) k))
    (h1 : ∀ k : Fin 1024, X1 (ix2 (0 : Fin 1) k) = A1 (ix1 k)) (h2 : ∀ k : Fin 1024, X2 (ix2 k e) = A2 (ix2 k E)) :
    (k0_pay2 (F := Ideal) (k0_pay1 (F := Ideal) X0 X1) X2 : FVec Ideal S2048x1024 .f32) (ix2 r e)
      = (val_main_v14 (F := Ideal) A0 A1 A2 : FVec Ideal S16384x6144 .f32) (ix2 R E) := by
  pointwise [k0_pay2, k0_pay1, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  simp only [h0, h1, h2, zero_add]
  done

/-- The result array of the kernel is the reference's result of the same arguments. -/
theorem final (c : Dev nD) : (dats m 0 c).arrAt 3 (cfgs 0).N
    = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored]
  idx_vars y
  refine (core _ _ _ (m ((c : Thread nD τ).loc main_arg0)) (m ((c : Thread nD τ).loc main_arg1)) (m ((c : Thread nD τ).loc main_arg2))
    _ (row t _) _ (col t _) (blk0 m c t _) (blk1 m c t) (blk2 m c t · _)).trans ?_
  blk_ext [idx t]

end Cert.ProjAIdeal.Result
-- ==== Proof.ProjBValue.lean ====
module

public import proofs.«01_k».proof.Proof.Gen.ProjBIdeal.Frame
public import proofs.«01_k».proof.Proof.Gen.ProjBPlainIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjBIdeal.Result

open Cert.ProjBIdeal Cert.ProjBIdeal.Gen Cert.ProjBPlainIdeal.Read

variable (m : (ℓ : Loc nD τ sig) → Buf (Elt Ideal) ℓ)

/-- The block each window holds at a point: a tile of rows, the weight of the norm, a tile of columns. -/
theorem idx : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- The grid has this many points. -/
theorem pt_lt (t : Fin cfg0.N) : t.val < 48 := Nat.lt_of_lt_of_eq t.isLt N_0

/-- The array row that row `r` of the tile at point `t` is. -/
abbrev row (t : Fin cfg0.N) (r : Fin 1024) : Fin 16384 := ⟨1024 * (t.val / 3) + r.val, by have := pt_lt t; omega⟩

/-- The array column that column `e` of the tile at point `t` is. -/
abbrev col (t : Fin cfg0.N) (e : Fin 1792) : Fin 5376 := ⟨1792 * (t.val % 3) + e.val, by have := pt_lt t; omega⟩

/-- A concatenation of equal pieces. -/
theorem cat_congr {a0 b0 : FVec Ideal S1024x3072 .f32} {a1 b1 : FVec Ideal S1024x1536 .f32} {a2 b2 : FVec Ideal S1024x512 .f32}
    {a3 b3 a4 b4 : FVec Ideal S1024x8 .f32} (h0 : a0 = b0) (h1 : a1 = b1) (h2 : a2 = b2) (h3 : a3 = b3) (h4 : a4 = b4) :
    concatenate S1024x5136 1 [⟨S1024x3072, a0⟩, ⟨S1024x1536, a1⟩, ⟨S1024x512, a2⟩, ⟨S1024x8, a3⟩, ⟨S1024x8, a4⟩]
        concatenates_S1024x3072_S1024x1536_S1024x512_S1024x8_S1024x8_S1024x5136_d1
      = concatenate S1024x5136 1 [⟨S1024x3072, b0⟩, ⟨S1024x1536, b1⟩, ⟨S1024x512, b2⟩, ⟨S1024x8, b3⟩, ⟨S1024x8, b4⟩]
        concatenates_S1024x3072_S1024x1536_S1024x512_S1024x8_S1024x8_S1024x5136_d1 := by
  subst h0 h1 h2 h3 h4; rfl

/-- The weights with their columns in the kernel's order, padded to the width of its tiles. -/
def reordered (w : FVec Ideal S1024x5136 .f32) : FVec Ideal S1024x5376 .bf16 :=
  truncf .bf16 (pad S1024x5376 ![0, 0] ![0, 240] ![0, 0]
    (concatenate S1024x5136 1 [⟨S1024x3072, extractStridedSlice S1024x3072 ![0, 0] w slices_S1024x5136_S1024x3072_0_0⟩,
      ⟨S1024x1536, extractStridedSlice S1024x1536 ![0, 3600] w slices_S1024x5136_S1024x1536_0_3600⟩,
      ⟨S1024x512, extractStridedSlice S1024x512 ![0, 3088] w slices_S1024x5136_S1024x512_0_3088⟩,
      ⟨S1024x8, extractStridedSlice S1024x8 ![0, 3072] w slices_S1024x5136_S1024x8_0_3072⟩,
      ⟨S1024x8, extractStridedSlice S1024x8 ![0, 3080] w slices_S1024x5136_S1024x8_0_3080⟩]
      concatenates_S1024x3072_S1024x1536_S1024x512_S1024x8_S1024x8_S1024x5136_d1)
    (sitofp .f32 (constantI S_ 32 0#32) : FVec Ideal S_ .f32) pads_S1024x5136_S1024x5376_000_02400 h_S_) bitsLt_bf16_f32

set_option maxHeartbeats 3200000 in
/-- The weights the call is entered with. -/
theorem V2 (c : Dev nD) : V m c main_v9 = reordered (m ((c : Thread nD τ).loc main_arg2)) := by
  unfold V
  simp only [List.flatten_cons, List.flatten_nil, List.append_nil, hostOps0, hostOps0_1, hostOps0_2, List.cons_append, List.nil_append, StableHlo.after_cons, StableHlo.after_nil]
  rw [StableHlo.unary_result]
  after_results_steps
  refine congrArg (fun u => truncf .bf16 (pad S1024x5376 ![0, 0] ![0, 240] ![0, 0] u (sitofp .f32 (constantI S_ 32 0#32) : FVec Ideal S_ .f32)
    pads_S1024x5136_S1024x5376_000_02400 h_S_) bitsLt_bf16_f32) (cat_congr ?_ ?_ ?_ ?_ ?_)
  · change (HloOp.result _ _ (Proc.devRef .tc main_v2)) = _
    after_results_steps
  · change (HloOp.result _ _ (Proc.devRef .tc main_v3)) = _
    after_results_steps
  · change (HloOp.result _ _ (Proc.devRef .tc main_v4)) = _
    after_results_steps
  · change (HloOp.result _ _ (Proc.devRef .tc main_v5)) = _
    after_results_steps
  · change (HloOp.result _ _ (Proc.devRef .tc main_v6)) = _
    after_results_steps

/-- The rows the call is entered with. -/
theorem V0 (c : Dev nD) : V m c main_v0 = shapeCast S16384x1024 (m ((c : Thread nD τ).loc main_arg0)) shapeCasts_S4x4096x1024_S16384x1024 := by
  unfold V
  simp only [List.flatten_cons, List.flatten_nil, List.append_nil, hostOps0, hostOps0_1, hostOps0_2, List.cons_append, List.nil_append]
  entry_read
  rfl

/-- A row of the flattened array. -/
theorem rows_at (X : FVec Ideal S4x4096x1024 .f32) (R : Fin 16384) (k : Fin 1024) :
    shapeCast S16384x1024 X shapeCasts_S4x4096x1024_S16384x1024 (ix2 R k)
      = X (ix3 (⟨R.val / 4096, by omega⟩ : Fin 4) (⟨R.val % 4096, by omega⟩ : Fin 4096) k) := by
  pointwise

/-- The norm's weight the call is entered with. -/
theorem V1 (c : Dev nD) : V m c main_v1 = shapeCast S1x1024 (m ((c : Thread nD τ).loc main_arg1)) shapeCasts_S1024_S1x1024 := by
  unfold V
  simp only [List.flatten_cons, List.flatten_nil, List.append_nil, hostOps0, hostOps0_1, hostOps0_2, List.cons_append, List.nil_append]
  entry_read
  rfl

/-- The rows the body reads at a point. -/
theorem blk0 (c : Dev nD) (t : Fin cfg0.N) (r : Fin 1024) (k : Fin 1024) : iblk m c 0 t (ix2 r k)
    = m ((c : Thread nD τ).loc main_arg0) (ix3 (⟨(row t r).val / 4096, by have := (row t r).isLt; omega⟩ : Fin 4)
        (⟨(row t r).val % 4096, by omega⟩ : Fin 4096) k) := by
  have e : iblk m c 0 t (ix2 r k) = V m c main_v0 (ix2 (row t r) k) := by blk_simp [iblk]; blk_ext [idx t]
  rw [e, V0]
  exact rows_at _ (row t r) k

/-- The norm's weight, at every point. -/
theorem blk1 (c : Dev nD) (t : Fin cfg0.N) (k : Fin 1024) : iblk m c 1 t (ix2 (0 : Fin 1) k)
    = m ((c : Thread nD τ).loc main_arg1) (ix1 k) := by
  have e : iblk m c 1 t (ix2 (0 : Fin 1) k) = V m c main_v1 (ix2 (0 : Fin 1) k) := by blk_simp [iblk]; blk_ext [idx t]
  rw [e, V1]
  generalize m ((c : Thread nD τ).loc main_arg1) = X
  pointwise

/-- At the first tile of columns the body normalises its rows, keeps them in the scratch buffer and multiplies. -/
theorem first (c : Dev nD) (t : Fin cfg0.N) (h : t.val % 3 = 0) : (outsAt0 m c t.val t.isLt).2 = k0_pay1 (iblk m c 0 t) (iblk m c 1 t)
   ∧ (outsAt0 m c t.val t.isLt).1 = k0_pay2 (k0_pay1 (iblk m c 0 t) (iblk m c 1 t)) (iblk m c 2 t) := by
  rw [outsAt0_A m c t h]
  constructor
  · dsimp only
    frame_out
  · dsimp only
    frame_out

/-- At a later tile of columns the scratch buffer is the one the point before left. -/
theorem later (c : Dev nD) (t : Fin cfg0.N) (h : ¬ t.val % 3 = 0) :
    (outsAt0 m c t.val t.isLt).2 = (outsAt0 m c (t.val - 1) (by have := t.isLt; omega)).2
   ∧ (outsAt0 m c t.val t.isLt).1 = k0_pay2 (outsAt0 m c (t.val - 1) (by have := t.isLt; omega)).2 (iblk m c 2 t) := by
  rw [outsAt0_B m c t h]
  constructor
  · dsimp only
    unfold sout0_B_0
    rfl
  · dsimp only
    frame_out
    exact congrArg (k0_pay2 · _) (Memref.IsWhole.read_unread _ _)

/-- After every point the scratch buffer holds the normalised rows of its tile, and the result block their product with the tile
    of columns. -/
theorem held (c : Dev nD) : ∀ (n : ℕ) (h : n < cfg0.N), (outsAt0 m c n h).2 = k0_pay1 (iblk m c 0 ⟨n, h⟩) (iblk m c 1 ⟨n, h⟩)
  | 0, h => (first m c ⟨0, h⟩ rfl).1
  | n + 1, h => by
    by_cases h0 : (n + 1) % 3 = 0
    · exact (first m c ⟨n + 1, h⟩ h0).1
    · refine ((later m c ⟨n + 1, h⟩ h0).1.trans (held c n (Nat.lt_of_succ_lt h))).trans ?_
      have e0 : iblk m c 0 ⟨n, Nat.lt_of_succ_lt h⟩ = iblk m c 0 ⟨n + 1, h⟩ := by
        funext y
        idx_vars y
        have hd : n / 3 = (n + 1) / 3 := by omega
        rw [blk0, blk0]
        simp only [hd]
      have e1 : iblk m c 1 ⟨n, Nat.lt_of_succ_lt h⟩ = iblk m c 1 ⟨n + 1, h⟩ := by
        funext y
        idx_vars y
        obtain rfl : y0 = 0 := Subsingleton.elim _ _
        rw [blk1, blk1]
      rw [e0, e1]

/-- What the body stores at a point. -/
theorem stored (c : Dev nD) (t : Fin cfg0.N) : (outsAt0 m c t.val t.isLt).1 = k0_pay2 (k0_pay1 (iblk m c 0 t) (iblk m c 1 t)) (iblk m c 2 t) := by
  by_cases h0 : t.val % 3 = 0
  · exact (first m c t h0).2
  · rw [(later m c t h0).2, ← (later m c t h0).1, held m c t.val t.isLt]

/-- The columns of the weights the body reads at a point. -/
theorem blk2 (c : Dev nD) (t : Fin cfg0.N) (k : Fin 1024) (e : Fin 1792) : iblk m c 2 t (ix2 k e)
    = reordered (m ((c : Thread nD τ).loc main_arg2)) (ix2 k (col t e)) := by
  blk_simp [iblk]; rw [V2]; blk_ext [idx t]

/-- The integer nought as a number. -/
theorem sitofp_zero : (FloatOps.sitofp .f32 (0#32 : BitVec 32) : Ideal .f32) = (0 : EReal) := by
  show (((0#32 : BitVec 32).toInt : ℝ) : EReal) = 0
  simp

set_option maxHeartbeats 1600000 in
/-- One entry of the projection: the normalised row times a column of the weights. The kernel orders the columns before it
    multiplies, the reference orders the columns of the product. -/
theorem core (X0 : FVec Ideal S1024x1024 .f32) (X1 : FVec Ideal S1x1024 .f32) (X2 : FVec Ideal S1024x1792 .bf16)
    (A0 : FVec Ideal S4x4096x1024 .f32) (A1 : FVec Ideal S1024 .f32) (A2 : FVec Ideal S1024x5136 .f32)
    (r : Fin 1024) (R : Fin 16384) (e : Fin 1792) (E : Fin 5376)
    (h0 : ∀ k : Fin 1024, X0 (ix2 r k) = A0 (ix3 (⟨R.val / 4096, by omega⟩ : Fin 4) (⟨R.val % 4096, by omega⟩ : Fin 4096) k))
    (h1 : ∀ k : Fin 1024, X1 (ix2 (0 : Fin 1) k) = A1 (ix1 k)) (h2 : ∀ k : Fin 1024, X2 (ix2 k e) = reordered A2 (ix2 k E)) :
    (k0_pay2 (F := Ideal) (k0_pay1 (F := Ideal) X0 X1) X2 : FVec Ideal S1024x1792 .f32) (ix2 r e)
      = (val_main_v21 (F := Ideal) A0 A1 A2 : FVec Ideal S16384x5376 .f32) (ix2 R E) := by
  pointwise [k0_pay2, k0_pay1, val_main_v21, val_main_v20, val_main_cst_2, val_main_v19, val_main_v18, val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  simp only [h0, h1, h2, zero_add]
  pointwise [reordered]
  rw [sitofp_zero]
  by_cases c0 : E.val < 3072
  · have d : E.val < 5136 := by omega
    simp only [dif_pos c0, dif_pos d]
  by_cases c1 : E.val - 3072 < 1536
  · have d : E.val < 5136 := by omega
    simp only [dif_neg c0, dif_pos c1, dif_pos d]
  by_cases c2 : E.val - 3072 - 1536 < 512
  · have d : E.val < 5136 := by omega
    simp only [dif_neg c0, dif_neg c1, dif_pos c2, dif_pos d]
  by_cases c3 : E.val - 3072 - 1536 - 512 < 8
  · have d : E.val < 5136 := by omega
    simp only [dif_neg c0, dif_neg c1, dif_neg c2, dif_pos c3, dif_pos d]
  by_cases c4 : E.val - 3072 - 1536 - 512 - 8 < 8
  · have d : E.val < 5136 := by omega
    simp only [dif_neg c0, dif_neg c1, dif_neg c2, dif_neg c3, dif_pos c4, dif_pos d]
  · have d : ¬ E.val < 5136 := by omega
    simp only [dif_neg c0, dif_neg c1, dif_neg c2, dif_neg c3, dif_neg c4, dif_neg d, mul_zero, Finset.sum_const_zero]

/-- The result array of the kernel is the reference's result of the same arguments. -/
theorem final (c : Dev nD) : (dats m 0 c).arrAt 3 (cfgs 0).N
    = val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored]
  idx_vars y
  refine (core _ _ _ (m ((c : Thread nD τ).loc main_arg0)) (m ((c : Thread nD τ).loc main_arg1)) (m ((c : Thread nD τ).loc main_arg2))
    _ (row t _) _ (col t _) (blk0 m c t _) (blk1 m c t) (blk2 m c t · _)).trans ?_
  blk_ext [idx t]

end Cert.ProjBIdeal.Result
-- ==== Proof.OutAValue.lean ====
module

public import proofs.«01_k».proof.Proof.Gen.OutAIdeal.Frame
public import proofs.«01_k».proof.Proof.Gen.OutAPlainIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutAIdeal.Result

open Cert.OutAIdeal Cert.OutAIdeal.Gen Cert.OutAPlainIdeal.Read

variable (m : (ℓ : Loc nD τ sig) → Buf (Elt Ideal) ℓ)

/-- The block each window holds at row tile `t`; the two gates are columns 5120 to 6143 of the projection. -/
theorem idx : ∀ t : Fin cfg0.N, win0_0.index t = ![t.val, 0] ∧ win0_1.index t = ![t.val, 0] ∧ win0_2.index t = ![t.val, 10]
    ∧ win0_3.index t = ![t.val, 11] ∧ win0_4.index t = ![t.val, 0] ∧ win0_5.index t = ![0, 0] ∧ win0_6.index t = ![0, 0]
    ∧ win0_7.index t = ![t.val, 0] :=
  (by decide +kernel : ∀ t : Fin grid0.N, _)

theorem pt_lt (t : Fin cfg0.N) : t.val < 32 := Nat.lt_of_lt_of_eq t.isLt N_0

/-- The array row that row `r` of tile `t` is. -/
abbrev row (t : Fin cfg0.N) (r : Fin 512) : Fin 16384 := ⟨512 * t.val + r.val, by have := pt_lt t; omega⟩

set_option maxHeartbeats 1600000 in
/-- One row of the gated product: the kernel adds the products of the two halves of the branch, the reference multiplies
    the joined branch at once. -/
theorem core (X0 : FVec Ideal S512x512 .bf16) (X1 : FVec Ideal S512x512 .bf16) (X2 : FVec Ideal S512x512 .f32) (X3 : FVec Ideal S512x512 .f32)
    (X4 : FVec Ideal S512x1024 .f32) (X5 : FVec Ideal S512x1024 .bf16) (X6 : FVec Ideal S512x1024 .bf16)
    (A0 : FVec Ideal S16384x512 .bf16) (A1 : FVec Ideal S16384x512 .bf16) (A2 : FVec Ideal S16384x6144 .f32)
    (A3 : FVec Ideal S16384x1024 .f32) (A4 : FVec Ideal S1024x1024 .f32) (r : Fin 512) (R : Fin 16384) (e : Fin 1024)
    (h0 : ∀ k : Fin 512, X0 (ix2 r k) = A0 (ix2 R k)) (h1 : ∀ k : Fin 512, X1 (ix2 r k) = A1 (ix2 R k))
    (h2 : ∀ k : Fin 512, X2 (ix2 r k) = A2 (ix2 R (⟨5120 + k.val, by omega⟩ : Fin 6144)))
    (h3 : ∀ k : Fin 512, X3 (ix2 r k) = A2 (ix2 R (⟨5120 + (512 + k.val), by omega⟩ : Fin 6144)))
    (h4 : X4 (ix2 r e) = A3 (ix2 R e)) (h5 : ∀ k : Fin 512, X5 (ix2 k e) = A4 (ix2 (⟨k.val, by omega⟩ : Fin 1024) e))
    (h6 : ∀ k : Fin 512, X6 (ix2 k e) = A4 (ix2 (⟨512 + k.val, by omega⟩ : Fin 1024) e)) :
    (k0_pay1 (F := Ideal) X0 X2 X1 X3 X5 X6 X4 : FVec Ideal S512x1024 .f32) (ix2 r e)
      = (val_main_v6 (F := Ideal) A0 A1 A2 A3 A4 : FVec Ideal S16384x1024 .f32) (ix2 R e) := by
  pointwise [k0_pay1, val_main_v6, val_main_v5, val_main_v4, val_main_v3, val_main_call0_v5, val_main_call0_v4, val_main_call0_cst_0, val_main_call0_v3, val_main_call0_v2, val_main_call0_cst, val_main_call0_v1, val_main_call0_v0, val_main_v2, val_main_v1, val_main_v0]
  simp only [h0, h1, h2, h3, h4, h5, h6, sub_eq_add_neg, zero_add]
  done

theorem blk0 (c : Dev nD) (t : Fin cfg0.N) (r : Fin 512) (k : Fin 512) : iblk m c 0 t (ix2 r k)
    = m ((c : Thread nD τ).loc main_arg0) (ix2 (row t r) k) := by
  blk_ext! [iblk, V, idx t]

theorem blk1 (c : Dev nD) (t : Fin cfg0.N) (r k : Fin 512) : iblk m c 1 t (ix2 r k)
    = m ((c : Thread nD τ).loc main_arg1) (ix2 (row t r) k) := by
  blk_ext! [iblk, V, idx t]

theorem blk2 (c : Dev nD) (t : Fin cfg0.N) (r : Fin 512) (k : Fin 512) : iblk m c 2 t (ix2 r k)
    = m ((c : Thread nD τ).loc main_arg2) (ix2 (row t r)
        (⟨5120 + k.val, by omega⟩ : Fin 6144)) := by
  blk_ext! [iblk, V, idx t]

theorem blk3 (c : Dev nD) (t : Fin cfg0.N) (r k : Fin 512) : iblk m c 3 t (ix2 r k)
    = m ((c : Thread nD τ).loc main_arg2) (ix2 (row t r)
        (⟨5120 + (512 + k.val), by omega⟩ : Fin 6144)) := by
  blk_ext! [iblk, V, idx t]

theorem blk4 (c : Dev nD) (t : Fin cfg0.N) (r : Fin 512) (e : Fin 1024) : iblk m c 4 t (ix2 r e)
    = m ((c : Thread nD τ).loc main_arg3) (ix2 (row t r) e) := by
  blk_ext! [iblk, V, idx t]

theorem blk5 (c : Dev nD) (t : Fin cfg0.N) (k : Fin 512) (e : Fin 1024) : iblk m c 5 t (ix2 k e)
    = m ((c : Thread nD τ).loc main_arg4) (ix2 (⟨k.val, by omega⟩ : Fin 1024) e) := by
  blk_ext! [iblk, V, idx t]

theorem blk6 (c : Dev nD) (t : Fin cfg0.N) (k : Fin 512) (e : Fin 1024) : iblk m c 6 t (ix2 k e)
    = m ((c : Thread nD τ).loc main_arg4) (ix2 (⟨512 + k.val, by omega⟩ : Fin 1024) e) := by
  blk_ext! [iblk, V, idx t]

/-- The result array of the kernel is the reference's result of the same arguments. -/
theorem final (c : Dev nD) : (dats m 0 c).arrAt 7 (cfgs 0).N
    = val_main_v6 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]; frame_out
  idx_vars y
  refine (core _ _ _ _ _ _ _ (m ((c : Thread nD τ).loc main_arg0)) (m ((c : Thread nD τ).loc main_arg1)) (m ((c : Thread nD τ).loc main_arg2))
    (m ((c : Thread nD τ).loc main_arg3)) (m ((c : Thread nD τ).loc main_arg4)) _
    (row t _) _ (blk0 m c t _) (blk1 m c t _) (blk2 m c t _) (blk3 m c t _) (blk4 m c t _ _)
    (blk5 m c t · _) (blk6 m c t · _)).trans ?_
  blk_ext [idx t]

end Cert.OutAIdeal.Result
-- ==== Proof.OutBValue.lean ====
module

public import proofs.«01_k».proof.Proof.Gen.OutBIdeal.Frame
public import proofs.«01_k».proof.Proof.Gen.OutBPlainIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutBIdeal.Result

open Cert.OutBIdeal Cert.OutBIdeal.Gen Cert.OutBPlainIdeal.Read

variable (m : (ℓ : Loc nD τ sig) → Buf (Elt Ideal) ℓ)

/-- The block each window holds at row tile `t`; the two gates are columns 3072 to 4607 of the projection. -/
theorem idx : ∀ t : Fin cfg0.N, win0_0.index t = ![t.val, 0] ∧ win0_1.index t = ![t.val, 0] ∧ win0_2.index t = ![t.val, 3]
    ∧ win0_3.index t = ![t.val, 8] ∧ win0_4.index t = ![t.val, 0] ∧ win0_5.index t = ![0, 0] ∧ win0_6.index t = ![0, 0]
    ∧ win0_7.index t = ![t.val, 0] :=
  (by decide +kernel : ∀ t : Fin grid0.N, _)

theorem pt_lt (t : Fin cfg0.N) : t.val < 32 := Nat.lt_of_lt_of_eq t.isLt N_0

/-- The array row that row `r` of tile `t` is. -/
abbrev row (t : Fin cfg0.N) (r : Fin 512) : Fin 16384 := ⟨512 * t.val + r.val, by have := pt_lt t; omega⟩

set_option maxHeartbeats 1600000 in
/-- One row of the gated product: the kernel adds the products of the two halves of the branch, the reference multiplies
    the joined branch at once. -/
theorem core (X0 : FVec Ideal S512x1024 .bf16) (X1 : FVec Ideal S512x512 .bf16) (X2 : FVec Ideal S512x1024 .f32) (X3 : FVec Ideal S512x512 .f32)
    (X4 : FVec Ideal S512x1024 .f32) (X5 : FVec Ideal S1024x1024 .bf16) (X6 : FVec Ideal S512x1024 .bf16)
    (A0 : FVec Ideal S16384x1024 .bf16) (A1 : FVec Ideal S16384x512 .bf16) (A2 : FVec Ideal S16384x5376 .f32)
    (A3 : FVec Ideal S16384x1024 .f32) (A4 : FVec Ideal S1536x1024 .f32) (r : Fin 512) (R : Fin 16384) (e : Fin 1024)
    (h0 : ∀ k : Fin 1024, X0 (ix2 r k) = A0 (ix2 R k)) (h1 : ∀ k : Fin 512, X1 (ix2 r k) = A1 (ix2 R k))
    (h2 : ∀ k : Fin 1024, X2 (ix2 r k) = A2 (ix2 R (⟨3072 + k.val, by omega⟩ : Fin 5376)))
    (h3 : ∀ k : Fin 512, X3 (ix2 r k) = A2 (ix2 R (⟨3072 + (1024 + k.val), by omega⟩ : Fin 5376)))
    (h4 : X4 (ix2 r e) = A3 (ix2 R e)) (h5 : ∀ k : Fin 1024, X5 (ix2 k e) = A4 (ix2 (⟨k.val, by omega⟩ : Fin 1536) e))
    (h6 : ∀ k : Fin 512, X6 (ix2 k e) = A4 (ix2 (⟨1024 + k.val, by omega⟩ : Fin 1536) e)) :
    (k0_pay1 (F := Ideal) X0 X2 X1 X3 X5 X6 X4 : FVec Ideal S512x1024 .f32) (ix2 r e)
      = (val_main_v6 (F := Ideal) A0 A1 A2 A3 A4 : FVec Ideal S16384x1024 .f32) (ix2 R e) := by
  pointwise [k0_pay1, val_main_v6, val_main_v5, val_main_v4, val_main_v3, val_main_call0_v5, val_main_call0_v4, val_main_call0_cst_0, val_main_call0_v3, val_main_call0_v2, val_main_call0_cst, val_main_call0_v1, val_main_call0_v0, val_main_v2, val_main_v1, val_main_v0]
  simp only [h0, h1, h2, h3, h4, h5, h6, sub_eq_add_neg, zero_add]
  done

theorem blk0 (c : Dev nD) (t : Fin cfg0.N) (r : Fin 512) (k : Fin 1024) : iblk m c 0 t (ix2 r k)
    = m ((c : Thread nD τ).loc main_arg0) (ix2 (row t r) k) := by
  blk_ext! [iblk, V, idx t]

theorem blk1 (c : Dev nD) (t : Fin cfg0.N) (r k : Fin 512) : iblk m c 1 t (ix2 r k)
    = m ((c : Thread nD τ).loc main_arg1) (ix2 (row t r) k) := by
  blk_ext! [iblk, V, idx t]

theorem blk2 (c : Dev nD) (t : Fin cfg0.N) (r : Fin 512) (k : Fin 1024) : X0_2 m c t (ix2 r k)
    = m ((c : Thread nD τ).loc main_arg2) (ix2 (row t r)
        (⟨3072 + k.val, by omega⟩ : Fin 5376)) := by
  unfold X0_2 Pipeline.Window.fill
  rw [dif_pos (moved0_2 t _)]
  blk_ext! [iblk, V, idx t]

theorem blk3 (c : Dev nD) (t : Fin cfg0.N) (r k : Fin 512) : X0_3 m c t (ix2 r k)
    = m ((c : Thread nD τ).loc main_arg2) (ix2 (row t r)
        (⟨3072 + (1024 + k.val), by omega⟩ : Fin 5376)) := by
  unfold X0_3 Pipeline.Window.fill
  rw [dif_pos (moved0_3 t _)]
  blk_ext! [iblk, V, idx t]

theorem blk4 (c : Dev nD) (t : Fin cfg0.N) (r : Fin 512) (e : Fin 1024) : iblk m c 4 t (ix2 r e)
    = m ((c : Thread nD τ).loc main_arg3) (ix2 (row t r) e) := by
  blk_ext! [iblk, V, idx t]

theorem blk5 (c : Dev nD) (t : Fin cfg0.N) (k : Fin 1024) (e : Fin 1024) : iblk m c 5 t (ix2 k e)
    = m ((c : Thread nD τ).loc main_arg4) (ix2 (⟨k.val, by omega⟩ : Fin 1536) e) := by
  blk_ext! [iblk, V, idx t]

theorem blk6 (c : Dev nD) (t : Fin cfg0.N) (k : Fin 512) (e : Fin 1024) : iblk m c 6 t (ix2 k e)
    = m ((c : Thread nD τ).loc main_arg4) (ix2 (⟨1024 + k.val, by omega⟩ : Fin 1536) e) := by
  blk_ext! [iblk, V, idx t]

/-- The result array of the kernel is the reference's result of the same arguments. -/
theorem final (c : Dev nD) : (dats m 0 c).arrAt 7 (cfgs 0).N
    = val_main_v6 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]; unfold outsAt0; frame_out
  idx_vars y
  refine (core _ _ _ _ _ _ _ (m ((c : Thread nD τ).loc main_arg0)) (m ((c : Thread nD τ).loc main_arg1)) (m ((c : Thread nD τ).loc main_arg2))
    (m ((c : Thread nD τ).loc main_arg3)) (m ((c : Thread nD τ).loc main_arg4)) _
    (row t _) _ (blk0 m c t _) (blk1 m c t _) (blk2 m c t _) (blk3 m c t _) (blk4 m c t _ _)
    (blk5 m c t · _) (blk6 m c t · _)).trans ?_
  blk_ext [idx t]

end Cert.OutBIdeal.Result
-- ==== Proof.Softmax.lean ====
module

public import Idealize.ShloMosaic.PureOps.Ideal
public import Mathlib.Data.EReal.Inv
public import Mathlib.Algebra.BigOperators.Fin

@[expose] public section

noncomputable section

open Idealize.ShloMosaic

namespace Cert.Softmax

/-- The weight of a score: its exponential, nothing for a masked one. -/
def weight (x : EReal) : ℝ := if x = ⊥ then 0 else Real.exp x.toReal

theorem weight_nonneg (x : EReal) : 0 ≤ weight x := by
  unfold weight
  split
  · exact le_refl _
  · exact (Real.exp_pos _).le

theorem weight_coe (x : ℝ) : weight (x : EReal) = Real.exp x := by
  simp [weight]

/-- A score that is at most finite, less a finite shift: its weight, scaled. -/
theorem exp_sub (x : EReal) (hx : x ≠ ⊤) (M : ℝ) : Ideal.exp (x - (M : EReal)) = ((weight x * Real.exp (-M) : ℝ) : EReal) := by
  induction x with
  | bot =>
    rw [EReal.bot_sub, show Ideal.exp ⊥ = 0 from rfl]
    simp [weight]
  | top => exact absurd rfl hx
  | coe x =>
    rw [weight_coe, ← EReal.coe_sub, ← Real.exp_add, sub_eq_add_neg]
    rfl

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A real that is not negative goes into a sum of extended reals. -/
theorem mul_sum {ι : Type} (s : Finset ι) (f : ι → EReal) (a : ℝ) (ha : 0 ≤ a) :
    (a : EReal) * ∑ i ∈ s, f i = ∑ i ∈ s, (a : EReal) * f i := by
  classical
  induction s using Finset.induction with
  | empty => simp
  | insert b s hb ih =>
    rw [Finset.sum_insert hb, Finset.sum_insert hb,
      EReal.left_distrib_of_nonneg_of_ne_top (EReal.coe_nonneg.2 ha) (EReal.coe_ne_top a), ih]

/-- The greatest of scores of which one is finite and none is infinite is finite. -/
theorem fold_max_real {ι : Type} [Fintype ι] (s : ι → EReal) (hs : ∀ i, s i ≠ ⊤) (j : ι) (hj : s j ≠ ⊥) :
    ∃ M : ℝ, Finset.fold max ⊥ s Finset.univ = (M : EReal) := by
  have h1 : Finset.fold max ⊥ s Finset.univ < ⊤ :=
    Finset.fold_max_lt ⊤ |>.2 ⟨bot_lt_top, fun x _ => lt_top_iff_ne_top.2 (hs x)⟩
  have h2 : ⊥ < Finset.fold max ⊥ s Finset.univ :=
    Finset.lt_fold_max ⊥ |>.2 (Or.inr ⟨j, Finset.mem_univ _, bot_lt_iff_ne_bot.2 hj⟩)
  exact ⟨_, (EReal.coe_toReal h1.ne h2.ne').symm⟩

theorem div_coe (x : EReal) (y : ℝ) (hy : 0 < y) : Ideal.div x (y : EReal) = ((y⁻¹ : ℝ) : EReal) * x := by
  unfold Ideal.div
  rw [if_neg (by exact_mod_cast hy.ne'), ← EReal.coe_inv, mul_comm]

theorem weight_sum_pos {ι : Type} [Fintype ι] (s : ι → EReal) (j : ι) (hs : ∀ i, s i ≠ ⊤) (hj : s j ≠ ⊥) : 0 < ∑ i, weight (s i) :=
  Finset.sum_pos' (fun i _ => weight_nonneg _) ⟨j, Finset.mem_univ _, by unfold weight; rw [if_neg hj]; exact Real.exp_pos _⟩

/-- The sum of the exponentials, shifted by a real. -/
theorem sum_exp {ι : Type} [Fintype ι] (s : ι → EReal) (hs : ∀ i, s i ≠ ⊤) (M : ℝ) :
    ∑ i, Ideal.exp (s i - (M : EReal)) = ((Real.exp (-M) * ∑ i, weight (s i) : ℝ) : EReal) := by
  rw [Finset.mul_sum, coe_sum]
  exact Finset.sum_congr rfl fun i _ => by rw [exp_sub _ (hs i), mul_comm]

/-- The same with values, any extended reals. -/
theorem sum_exp_mul {ι : Type} [Fintype ι] (s v : ι → EReal) (hs : ∀ i, s i ≠ ⊤) (M : ℝ) :
    ∑ i, Ideal.exp (s i - (M : EReal)) * v i = ((Real.exp (-M) : ℝ) : EReal) * ∑ i, ((weight (s i) : ℝ) : EReal) * v i := by
  rw [mul_sum _ _ _ (Real.exp_pos _).le]
  exact Finset.sum_congr rfl fun i _ => by rw [exp_sub _ (hs i), mul_comm (weight (s i)), EReal.coe_mul, mul_assoc]

/-- Dividing the weighted sum is weighting with the divided exponentials. -/
theorem softmax_eq {ι : Type} [Fintype ι] (s v : ι → EReal) (hs : ∀ i, s i ≠ ⊤) (j : ι) (hj : s j ≠ ⊥) :
    Ideal.div (∑ i, Ideal.exp (s i - Finset.fold max ⊥ s Finset.univ) * v i) (∑ i, Ideal.exp (s i - Finset.fold max ⊥ s Finset.univ))
      = ∑ i, v i * Ideal.div (Ideal.exp (s i - max ⊥ (Finset.fold max ⊥ s Finset.univ)))
          (∑ i, Ideal.exp (s i - max ⊥ (Finset.fold max ⊥ s Finset.univ))) := by
  obtain ⟨M, hM⟩ := fold_max_real s hs j hj
  have hp := weight_sum_pos s j hs hj
  rw [max_eq_right bot_le, hM, sum_exp s hs, sum_exp_mul s v hs]
  have hL : 0 < Real.exp (-M) * ∑ i, weight (s i) := mul_pos (Real.exp_pos _) hp
  rw [div_coe _ _ hL, ← mul_assoc, ← EReal.coe_mul, mul_sum _ _ _ (by positivity)]
  refine Finset.sum_congr rfl fun i _ => ?_
  rw [div_coe _ _ hL, exp_sub _ (hs i), ← EReal.coe_mul, ← mul_assoc, ← EReal.coe_mul, mul_comm (v i)]
  congr 2
  ring

/-- A number whose absolute value is below infinity is real. -/
theorem real_of_olt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  change Ideal.cmp .olt (max x (-x)) ⊤ = 1#1 at h
  induction x with
  | bot => simp [Ideal.cmp] at h
  | coe r => exact ⟨r, rfl⟩
  | top => simp [Ideal.cmp] at h

end Cert.Softmax
-- ==== Proof.MemValue.lean ====
module

public import proofs.«01_k».proof.Proof.Gen.MemIdeal.Frame
public import proofs.«01_k».proof.Proof.Gen.MemPlainIdeal.Read
public import proofs.«01_k».proof.Proof.Softmax
public import proofs.«01_k».proof.Pre_finite_mem
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemIdeal.Result

open Cert.MemIdeal Cert.MemIdeal.Gen Cert.MemPlainIdeal.Read

variable (m : (ℓ : Loc nD τ sig) → Buf (Elt Ideal) ℓ)

/-- The scores of one head. -/
theorem scores_at (Q : FVec Ideal S512x128 .f32) (K : FVec Ideal S1x256x128 .f32) (r : Fin 512) (j : Fin 256) :
    (k0_pay4 (F := Ideal) Q K : FVec Ideal S512x256 .f32) (ix2 r j)
      = (∑ k : Fin 128, Q (ix2 r k) * K (ix3 (0 : Fin 1) j k)) * Ideal.ofBits FTy.f32 0x3DB504F3#32 := by
  pointwise [k0_pay4]

/-- One head's result from its scores. -/
theorem head_at (s : FVec Ideal S512x256 .f32) (V : FVec Ideal S1x256x128 .f32) (r : Fin 512) (e : Fin 128) :
    (k0_pay14 (F := Ideal) s V : FVec Ideal S512x128 .bf16) (ix2 r e)
      = Ideal.div (∑ j : Fin 256, Ideal.exp (s (ix2 r j) - Finset.fold max (Ideal.ofBits FTy.f32 0xFF800000#32) (fun j : Fin 256 => s (ix2 r j)) Finset.univ)
            * V (ix3 (0 : Fin 1) j e))
          (∑ j : Fin 256, Ideal.exp (s (ix2 r j) - Finset.fold max (Ideal.ofBits FTy.f32 0xFF800000#32) (fun j : Fin 256 => s (ix2 r j)) Finset.univ)) := by
  pointwise [k0_pay14]

/-- The reference's scores. -/
theorem ref_scores (A : FVec Ideal S16384x6144 .f32) (B : FVec Ideal S4x1024x512 .f32) (b h : Fin 4) (i : Fin 4096) (j : Fin 256) :
    (val_main_v10 (F := Ideal) A B : FVec Ideal Cert.MemPlainIdeal.S4x4x4096x256 .f32) (ix4 b h i j)
      = (∑ k : Fin 128, A (ix2 (⟨b.val * 4096 + i.val, by omega⟩ : Fin 16384) (⟨4608 + (h.val * 128 + k.val), by omega⟩ : Fin 6144))
          * B (ix3 (0 : Fin 4) (⟨b.val * 256 + j.val, by omega⟩ : Fin 1024) (⟨h.val * 128 + k.val, by omega⟩ : Fin 512)))
        * Ideal.ofBits FTy.f32 0x3DB504F3#32 := by
  pointwise [val_main_v10, val_main_v9, val_main_cst, val_main_v8, val_main_v4, val_main_v3, val_main_v2, val_main_v1, val_main_v0]
  blk_ext

/-- The reference's row maximum, as a fold over the row. -/
theorem ref_max (s : FVec Ideal Cert.MemPlainIdeal.S4x4x4096x256 .f32) (z : FVec Ideal Cert.MemPlainIdeal.S_ .f32)
    (hr : Cert.MemPlainIdeal.S4x4x4096x256.ReducesTo [3] Cert.MemPlainIdeal.S4x4x4096) (hu : 0 < Cert.MemPlainIdeal.S_.numel) (b h : Fin 4) (i : Fin 4096) :
    (Host.reduce (FloatOps.maximumf (F := Ideal) (φ := .f32)) s z hr hu :
        FVec Ideal Cert.MemPlainIdeal.S4x4x4096 .f32) (ix3 b h i)
      = Finset.fold max (z (Shape.Idx.first hu)) (fun j : Fin 256 => s (ix4 b h i j)) Finset.univ := by
  refine (Host.reduce_eq_fold_single (f := max) s z hr (by decide) hu (ix3 b h i)).trans ?_
  refine congrArg (fun f => Finset.fold max _ f Finset.univ) (funext fun k => congrArg s (funext fun a => Fin.ext ?_))
  match a with
  | ⟨0, _⟩ => rfl
  | ⟨1, _⟩ => rfl
  | ⟨2, _⟩ => rfl
  | ⟨3, _⟩ => rfl

/-- The reference's exponentials. -/
theorem ref_exp (A : FVec Ideal S16384x6144 .f32) (B : FVec Ideal S4x1024x512 .f32) (b h : Fin 4) (i : Fin 4096) (j : Fin 256) :
    (val_main_v17 (F := Ideal) A B : FVec Ideal Cert.MemPlainIdeal.S4x4x4096x256 .f32) (ix4 b h i j)
      = Ideal.exp ((val_main_v10 (F := Ideal) A B : FVec Ideal Cert.MemPlainIdeal.S4x4x4096x256 .f32) (ix4 b h i j)
          - max (Ideal.ofBits FTy.f32 0xFF800000#32) (Finset.fold max (Ideal.ofBits FTy.f32 0xFF800000#32)
              (fun j : Fin 256 => (val_main_v10 (F := Ideal) A B : FVec Ideal Cert.MemPlainIdeal.S4x4x4096x256 .f32) (ix4 b h i j)) Finset.univ)) := by
  have e : (val_main_v11 (F := Ideal) A B : FVec Ideal Cert.MemPlainIdeal.S4x4x4096 .f32) (ix3 b h i)
      = Finset.fold max (Ideal.ofBits FTy.f32 0xFF800000#32)
        (fun j : Fin 256 => (val_main_v10 (F := Ideal) A B : FVec Ideal Cert.MemPlainIdeal.S4x4x4096x256 .f32) (ix4 b h i j)) Finset.univ :=
    ref_max _ _ _ _ b h i
  rw [val_main_v17_apply, val_main_v16_apply, val_main_v15_apply, val_main_v14_apply, val_main_v13_apply, val_main_v12_apply,
    show (idx_main_v14 (idx_main_v15 (ix4 b h i j)) : Cert.MemPlainIdeal.S4x4x4096.Idx) = ix3 b h i from
      funext fun a => Fin.ext (by match a with | ⟨0, _⟩ => rfl | ⟨1, _⟩ => rfl | ⟨2, _⟩ => rfl), e]
  rfl

/-- The reference's result. -/
theorem ref_at (A : FVec Ideal S16384x6144 .f32) (B C : FVec Ideal S4x1024x512 .f32) (b h : Fin 4) (i : Fin 4096) (e : Fin 128) :
    (val_main_v24 (F := Ideal) A B C : FVec Ideal S16384x512 .f32)
          (ix2 (⟨b.val * 4096 + i.val, by omega⟩ : Fin 16384) (⟨h.val * 128 + e.val, by omega⟩ : Fin 512))
      = ∑ j : Fin 256, C (ix3 (0 : Fin 4) (⟨b.val * 256 + j.val, by omega⟩ : Fin 1024) (⟨h.val * 128 + e.val, by omega⟩ : Fin 512))
          * Ideal.div ((val_main_v17 (F := Ideal) A B : FVec Ideal Cert.MemPlainIdeal.S4x4x4096x256 .f32) (ix4 b h i j))
            (∑ j : Fin 256, (val_main_v17 (F := Ideal) A B : FVec Ideal Cert.MemPlainIdeal.S4x4x4096x256 .f32) (ix4 b h i j)) := by
  pointwise [val_main_v24, val_main_v23, val_main_v22, val_main_v21, val_main_v20, val_main_v19, val_main_v18, val_main_cst_2,
    val_main_v7, val_main_v6, val_main_v5]

theorem neg_inf : Ideal.ofBits FTy.f32 0xFF800000#32 = ⊥ := by simp [Ideal.ofBits, Ideal.ieee]

/-- A finite scale. -/
theorem scale_real : ∃ x : ℝ, Ideal.ofBits FTy.f32 0x3DB504F3#32 = (x : EReal) := by
  exact ⟨11863283 * (2 ^ 27)⁻¹, by simp [Ideal.ofBits, Ideal.ieee, EReal.coe_mul]⟩

/-- A sum of products of finite numbers is finite. -/
theorem dot_real {ι : Type} [Fintype ι] (f g : ι → EReal) (hf : ∀ k, ∃ x : ℝ, f k = (x : EReal)) (hg : ∀ k, ∃ x : ℝ, g k = (x : EReal)) :
    ∃ x : ℝ, ∑ k, f k * g k = (x : EReal) := by
  choose a ha using hf
  choose b hb using hg
  refine ⟨∑ k, a k * b k, ?_⟩
  rw [Cert.Softmax.coe_sum]
  exact Finset.sum_congr rfl fun k _ => by rw [ha, hb, EReal.coe_mul]

/-- One head of one row, from the head's columns of the three operands: the queries and the keys are finite. -/
theorem core (Q : FVec Ideal S512x128 .f32) (K V : FVec Ideal S1x256x128 .f32) (A : FVec Ideal S16384x6144 .f32)
    (B C : FVec Ideal S4x1024x512 .f32) (b h : Fin 4) (i : Fin 4096) (r : Fin 512) (e : Fin 128)
    (hA : ∀ k : Fin 128, ∃ x : ℝ, A (ix2 (⟨b.val * 4096 + i.val, by omega⟩ : Fin 16384) (⟨4608 + (h.val * 128 + k.val), by omega⟩ : Fin 6144)) = (x : EReal))
    (hB : ∀ (j : Fin 256) (k : Fin 128), ∃ x : ℝ, B (ix3 (0 : Fin 4) (⟨b.val * 256 + j.val, by omega⟩ : Fin 1024) (⟨h.val * 128 + k.val, by omega⟩ : Fin 512)) = (x : EReal))
    (hQ : ∀ k : Fin 128, Q (ix2 r k) = A (ix2 (⟨b.val * 4096 + i.val, by omega⟩ : Fin 16384) (⟨4608 + (h.val * 128 + k.val), by omega⟩ : Fin 6144)))
    (hK : ∀ (j : Fin 256) (k : Fin 128), K (ix3 (0 : Fin 1) j k)
      = B (ix3 (0 : Fin 4) (⟨b.val * 256 + j.val, by omega⟩ : Fin 1024) (⟨h.val * 128 + k.val, by omega⟩ : Fin 512)))
    (hV : ∀ (j : Fin 256), V (ix3 (0 : Fin 1) j e)
      = C (ix3 (0 : Fin 4) (⟨b.val * 256 + j.val, by omega⟩ : Fin 1024) (⟨h.val * 128 + e.val, by omega⟩ : Fin 512))) :
    (k0_pay14 (F := Ideal) (k0_pay4 (F := Ideal) Q K) V : FVec Ideal S512x128 .bf16) (ix2 r e)
      = (val_main_v24 (F := Ideal) A B C : FVec Ideal S16384x512 .f32)
          (ix2 (⟨b.val * 4096 + i.val, by omega⟩ : Fin 16384) (⟨h.val * 128 + e.val, by omega⟩ : Fin 512)) := by
  have hs : ∀ j : Fin 256, (k0_pay4 (F := Ideal) Q K : FVec Ideal S512x256 .f32) (ix2 r j)
      = (val_main_v10 (F := Ideal) A B : FVec Ideal Cert.MemPlainIdeal.S4x4x4096x256 .f32) (ix4 b h i j) := fun j => by
    rw [scores_at, ref_scores]
    simp only [hQ, hK]
  have hr : ∀ j : Fin 256, ∃ x : ℝ, (val_main_v10 (F := Ideal) A B : FVec Ideal Cert.MemPlainIdeal.S4x4x4096x256 .f32) (ix4 b h i j) = (x : EReal) := fun j => by
    rw [ref_scores]
    obtain ⟨x, hx⟩ := dot_real _ _ hA (hB j)
    obtain ⟨y, hy⟩ := scale_real
    exact ⟨x * y, by rw [hx, hy, EReal.coe_mul]⟩
  rw [head_at, ref_at]
  simp only [ref_exp, hs, hV, neg_inf]
  refine Cert.Softmax.softmax_eq (fun j : Fin 256 => (val_main_v10 (F := Ideal) A B : FVec Ideal Cert.MemPlainIdeal.S4x4x4096x256 .f32) (ix4 b h i j)) _
    (fun j => ?_) (0 : Fin 256) ?_
  · obtain ⟨x, hx⟩ := hr j
    simp only [hx]
    exact EReal.coe_ne_top x
  · obtain ⟨x, hx⟩ := hr 0
    simp only [hx]
    exact EReal.coe_ne_bot x

/-- The blocks each window holds at point `t`: a tile of rows of the queries, the batch's keys and values. -/
theorem idx : ∀ t : Fin cfg0.N, win0_0.index t = ![t.val, 9] ∧ win0_1.index t = ![0, t.val / 8, 0] ∧ win0_2.index t = ![0, t.val / 8, 0]
    ∧ win0_3.index t = ![t.val, 0] :=
  (by decide +kernel : ∀ t : Fin grid0.N, _)

theorem blk0 (c : Dev nD) (t : Fin cfg0.N) (r : Fin 512) (k : Fin 512) : iblk m c 0 t (ix2 r k)
    = m ((c : Thread nD τ).loc main_arg0) (ix2 (⟨t.val * 512 + r.val, by have := lt_of_lt_of_eq t.isLt N_0; omega⟩ : Fin 16384) (⟨4608 + k.val, by omega⟩ : Fin 6144)) := by
  blk_ext! [iblk, V, idx t]

theorem blk1 (c : Dev nD) (t : Fin cfg0.N) (z : Fin 1) (j : Fin 256) (k : Fin 512) : iblk m c 1 t (ix3 z j k)
    = m ((c : Thread nD τ).loc main_arg1) (ix3 (0 : Fin 4) (⟨t.val / 8 * 256 + j.val, by have := lt_of_lt_of_eq t.isLt N_0; omega⟩ : Fin 1024) k) := by
  blk_ext! [iblk, V, idx t]

theorem blk2 (c : Dev nD) (t : Fin cfg0.N) (z : Fin 1) (j : Fin 256) (k : Fin 512) : iblk m c 2 t (ix3 z j k)
    = m ((c : Thread nD τ).loc main_arg2) (ix3 (0 : Fin 4) (⟨t.val / 8 * 256 + j.val, by have := lt_of_lt_of_eq t.isLt N_0; omega⟩ : Fin 1024) k) := by
  blk_ext! [iblk, V, idx t]

set_option maxHeartbeats 1600000 in
/-- The block that point `t` leaves. -/
theorem point (c : Dev nD) (t : Fin cfg0.N) (hA : ∀ (r : Fin 16384) (k : Fin 512), ∃ x : ℝ,
      m ((c : Thread nD τ).loc main_arg0) (ix2 r (⟨4608 + k.val, by omega⟩ : Fin 6144)) = (x : EReal))
    (hB : ∀ (r : Fin 1024) (k : Fin 512), ∃ x : ℝ, m ((c : Thread nD τ).loc main_arg1) (ix3 (0 : Fin 4) r k) = (x : EReal))
    (r : Fin 512) (y : Fin 512) :
    (out0_3 (F := Ideal) (iblk m c 0 t) (iblk m c 1 t) (iblk m c 2 t) : FVec Ideal S512x512 .bf16) (ix2 r y)
      = (val_main_v24 (F := Ideal) (m ((c : Thread nD τ).loc main_arg0)) (m ((c : Thread nD τ).loc main_arg1)) (m ((c : Thread nD τ).loc main_arg2))
          : FVec Ideal S16384x512 .f32) (ix2 (⟨t.val * 512 + r.val, by have := lt_of_lt_of_eq t.isLt N_0; omega⟩ : Fin 16384) y) := by
  have ht := lt_of_lt_of_eq t.isLt N_0
  canon_tiles x h
  case piece0 =>
    refine Eq.trans (b := (k0_pay14 (F := Ideal) (k0_pay4 (F := Ideal) (View.ld (iblk m c 0 t) r0_6) (View.ld (iblk m c 1 t) r0_7))
      (View.ld (iblk m c 2 t) r0_7) : FVec Ideal S512x128 .bf16) x) (congrFun rfl x) ?_
    idx_vars x
    refine (core _ _ _ (m ((c : Thread nD τ).loc main_arg0)) (m ((c : Thread nD τ).loc main_arg1)) (m ((c : Thread nD τ).loc main_arg2))
      (⟨t.val / 8, by omega⟩ : Fin 4) (3 : Fin 4) (⟨t.val % 8 * 512 + r.val, by omega⟩ : Fin 4096) _ _
      (fun k => hA _ (⟨3 * 128 + k.val, by omega⟩ : Fin 512)) (fun j k => hB _ _) (fun k => ?_) (fun j k => ?_) (fun j => ?_)).trans ?_
    all_goals blk_ext! [iblk, V, idx t]
  case piece1 =>
    refine Eq.trans (b := (k0_pay14 (F := Ideal) (k0_pay4 (F := Ideal) (View.ld (iblk m c 0 t) r0_4) (View.ld (iblk m c 1 t) r0_5))
      (View.ld (iblk m c 2 t) r0_5) : FVec Ideal S512x128 .bf16) x) (congrFun rfl x) ?_
    idx_vars x
    refine (core _ _ _ (m ((c : Thread nD τ).loc main_arg0)) (m ((c : Thread nD τ).loc main_arg1)) (m ((c : Thread nD τ).loc main_arg2))
      (⟨t.val / 8, by omega⟩ : Fin 4) (2 : Fin 4) (⟨t.val % 8 * 512 + r.val, by omega⟩ : Fin 4096) _ _
      (fun k => hA _ (⟨2 * 128 + k.val, by omega⟩ : Fin 512)) (fun j k => hB _ _) (fun k => ?_) (fun j k => ?_) (fun j => ?_)).trans ?_
    all_goals blk_ext! [iblk, V, idx t]
  case piece2 =>
    refine Eq.trans (b := (k0_pay14 (F := Ideal) (k0_pay4 (F := Ideal) (View.ld (iblk m c 0 t) r0_2) (View.ld (iblk m c 1 t) r0_3))
      (View.ld (iblk m c 2 t) r0_3) : FVec Ideal S512x128 .bf16) x) (congrFun rfl x) ?_
    idx_vars x
    refine (core _ _ _ (m ((c : Thread nD τ).loc main_arg0)) (m ((c : Thread nD τ).loc main_arg1)) (m ((c : Thread nD τ).loc main_arg2))
      (⟨t.val / 8, by omega⟩ : Fin 4) (1 : Fin 4) (⟨t.val % 8 * 512 + r.val, by omega⟩ : Fin 4096) _ _
      (fun k => hA _ (⟨1 * 128 + k.val, by omega⟩ : Fin 512)) (fun j k => hB _ _) (fun k => ?_) (fun j k => ?_) (fun j => ?_)).trans ?_
    all_goals blk_ext! [iblk, V, idx t]
  case piece3 =>
    refine Eq.trans (b := (k0_pay14 (F := Ideal) (k0_pay4 (F := Ideal) (View.ld (iblk m c 0 t) r0_0) (View.ld (iblk m c 1 t) r0_1))
      (View.ld (iblk m c 2 t) r0_1) : FVec Ideal S512x128 .bf16) x) (congrFun rfl x) ?_
    idx_vars x
    refine (core _ _ _ (m ((c : Thread nD τ).loc main_arg0)) (m ((c : Thread nD τ).loc main_arg1)) (m ((c : Thread nD τ).loc main_arg2))
      (⟨t.val / 8, by omega⟩ : Fin 4) (0 : Fin 4) (⟨t.val % 8 * 512 + r.val, by omega⟩ : Fin 4096) _ _
      (fun k => hA _ (⟨0 * 128 + k.val, by omega⟩ : Fin 512)) (fun j k => hB _ _) (fun k => ?_) (fun j k => ?_) (fun j => ?_)).trans ?_
    all_goals blk_ext! [iblk, V, idx t]

/-- What the result array holds at the end. -/
theorem final (c : Dev nD) (hA : ∀ (r : Fin 16384) (k : Fin 512), ∃ x : ℝ,
      m ((c : Thread nD τ).loc main_arg0) (ix2 r (⟨4608 + k.val, by omega⟩ : Fin 6144)) = (x : EReal))
    (hB : ∀ (r : Fin 1024) (k : Fin 512), ∃ x : ℝ, m ((c : Thread nD τ).loc main_arg1) (ix3 (0 : Fin 4) r k) = (x : EReal)) :
    (dats m 0 c).arrAt 3 (cfgs 0).N
      = val_main_v25 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  refine (point m c t hA hB _ _).trans ?_
  pointwise [val_main_v25]
  blk_ext [idx t]

/-- The precondition, read at one query entry. -/
theorem pre_q [Cert.Pre_finite_mem.Facts] (A : FVec Ideal S16384x6144 .f32) (B C : FVec Ideal S4x1024x512 .f32) (r : Fin 16384) (k : Fin 512) :
    (Cert.Pre_finite_mem.fn (F := Ideal) A B C).1 (ix2 r k)
      = FloatOps.cmpf (F := Ideal) (φ := .f32) .olt (FloatOps.hostAbsf (F := Ideal) (φ := .f32) (A (ix2 r (⟨4608 + k.val, by omega⟩ : Fin 6144))))
        (Ideal.ofBits .f32 0x7F800000#32) := by
  pointwise [Cert.Pre_finite_mem.fn]

/-- The precondition, read at one key entry. -/
theorem pre_k [Cert.Pre_finite_mem.Facts] (A : FVec Ideal S16384x6144 .f32) (B C : FVec Ideal S4x1024x512 .f32) (r : Fin 1024) (k : Fin 512) :
    (Cert.Pre_finite_mem.fn (F := Ideal) A B C).2 (ix2 r k)
      = FloatOps.cmpf (F := Ideal) (φ := .f32) .olt (FloatOps.hostAbsf (F := Ideal) (φ := .f32) (B (ix3 (0 : Fin 4) r k)))
        (Ideal.ofBits .f32 0x7F800000#32) := by
  pointwise [Cert.Pre_finite_mem.fn]

/-- What the result array holds at the end, from the precondition. -/
theorem final_pre [Cert.Pre_finite_mem.Facts] (c : Dev nD)
    (h : (Cert.Pre_finite_mem.fn (F := Ideal) (m ((c : Thread nD τ).loc main_arg0)) (m ((c : Thread nD τ).loc main_arg1)) (m ((c : Thread nD τ).loc main_arg2))).1 = (fun _ => 1#1)
      ∧ (Cert.Pre_finite_mem.fn (F := Ideal) (m ((c : Thread nD τ).loc main_arg0)) (m ((c : Thread nD τ).loc main_arg1)) (m ((c : Thread nD τ).loc main_arg2))).2 = (fun _ => 1#1)) :
    (dats m 0 c).arrAt 3 (cfgs 0).N
      = val_main_v25 (F := Ideal) (m ((c : Thread nD τ).loc main_arg0)) (m ((c : Thread nD τ).loc main_arg1)) (m ((c : Thread nD τ).loc main_arg2)) :=
  final m c (fun r k => Cert.Softmax.real_of_olt _ ((pre_q _ _ _ r k).symm.trans (congrFun h.1 (ix2 r k))))
    (fun r k => Cert.Softmax.real_of_olt _ ((pre_k _ _ _ r k).symm.trans (congrFun h.2 (ix2 r k))))

end Cert.MemIdeal.Result
-- ==== Proof.KvValue.lean ====
module

public import proofs.«01_k».proof.Proof.Gen.KvIdeal.Frame
public import proofs.«01_k».proof.Proof.Gen.KvPlainIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KvIdeal.Result

open Cert.KvIdeal Cert.KvIdeal.Gen Cert.KvPlainIdeal.Read

variable (m : (ℓ : Loc nD τ sig) → Buf (Elt Ideal) ℓ)

/-- The block each window holds at layer `t`: the whole memory, and the layer's own weight and result. -/
theorem idx : ∀ t : Fin cfg0.N, win0_0.index t = ![0, 0] ∧ win0_1.index t = ![t.val, 0, 0] ∧ win0_2.index t = ![t.val, 0, 0]
    ∧ win0_3.index t = ![t.val, 0, 0] :=
  (by decide +kernel : ∀ t : Fin grid0.N, _)

/-- The memory as the kernel reads it: its rows are the batch and the position together. -/
theorem blk0 (c : Dev nD) (t : Fin cfg0.N) (r k : Fin 1024) : iblk m c 0 t (ix2 r k)
    = m ((c : Thread nD τ).loc main_arg0) (ix3 (⟨r.val / 256, by omega⟩ : Fin 4) (⟨r.val % 256, by omega⟩ : Fin 256) k) := by
  blk_simp [iblk]
  entry_read
  pointwise

  blk_ext [idx t]

/-- The weight of layer `t`. -/
theorem blk1 (c : Dev nD) (t : Fin cfg0.N) (z : Fin 1) (r k : Fin 1024) : iblk m c 1 t (ix3 z r k)
    = m ((c : Thread nD τ).loc main_arg1) (ix3 (⟨t.val, t.isLt⟩ : Fin 4) r k) := by
  blk_simp [iblk]
  entry_read
  pointwise
  blk_ext [idx t]

set_option maxHeartbeats 1600000 in
/-- The keys of layer `l`, from a memory and a weight read row by row. -/
theorem core2 (X0 : FVec Ideal S1024x1024 .f32) (X1 : FVec Ideal S1x1024x1024 .bf16) (A : FVec Ideal S4x256x1024 .f32)
    (W : FVec Ideal S4x1024x1024 .f32) (l : Fin 4)
    (h0 : ∀ r k : Fin 1024, X0 (ix2 r k) = A (ix3 (⟨r.val / 256, by omega⟩ : Fin 4) (⟨r.val % 256, by omega⟩ : Fin 256) k))
    (h1 : ∀ (z : Fin 1) (r k : Fin 1024), X1 (ix3 z r k) = W (ix3 l r k)) (z : Fin 1) (r : Fin 1024) (e : Fin 512) :
    (k0_pay2 (F := Ideal) X0 X1 : FVec Ideal S1x1024x512 .f32) (ix3 z r e)
      = (val_main_v3 (F := Ideal) A W : FVec Ideal S4x1024x512 .f32) (ix3 l r e) := by
  pointwise [k0_pay2, k0_pay1, val_main_v4, val_main_v3, val_main_v2, val_main_v1, val_main_v0]
  simp only [h0, h1]

  exact Finset.sum_congr rfl fun x _ => mul_comm _ _

set_option maxHeartbeats 1600000 in
/-- The values of layer `l`, from a memory and a weight read row by row. -/
theorem core3 (X0 : FVec Ideal S1024x1024 .f32) (X1 : FVec Ideal S1x1024x1024 .bf16) (A : FVec Ideal S4x256x1024 .f32)
    (W : FVec Ideal S4x1024x1024 .f32) (l : Fin 4)
    (h0 : ∀ r k : Fin 1024, X0 (ix2 r k) = A (ix3 (⟨r.val / 256, by omega⟩ : Fin 4) (⟨r.val % 256, by omega⟩ : Fin 256) k))
    (h1 : ∀ (z : Fin 1) (r k : Fin 1024), X1 (ix3 z r k) = W (ix3 l r k)) (z : Fin 1) (r : Fin 1024) (e : Fin 512) :
    (k0_pay3 (F := Ideal) X0 X1 : FVec Ideal S1x1024x512 .f32) (ix3 z r e)
      = (val_main_v4 (F := Ideal) A W : FVec Ideal S4x1024x512 .f32) (ix3 l r e) := by
  pointwise [k0_pay3, k0_pay1, val_main_v4, val_main_v3, val_main_v2, val_main_v1, val_main_v0]
  simp only [h0, h1]

  exact Finset.sum_congr rfl fun x _ => mul_comm _ _

/-- The kernel's array of keys is the reference's. -/
theorem final2 (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  refine (core2 _ _ _ _ ⟨t.val, t.isLt⟩ (blk0 m c t) (blk1 m c t) _ _ _).trans ?_
  blk_ext [idx t]

/-- The kernel's array of values is the reference's. -/
theorem final3 (c : Dev nD) : (dats m 0 c).arrAt 3 (cfgs 0).N
    = val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  idx_vars y
  refine (core3 _ _ _ _ ⟨t.val, t.isLt⟩ (blk0 m c t) (blk1 m c t) _ _ _).trans ?_
  blk_ext [idx t]

end Cert.KvIdeal.Result
-- ==== Proof.NormValue.lean ====
module

public import proofs.«01_k».proof.Proof.Gen.NormIdeal.Frame
public import proofs.«01_k».proof.Proof.Gen.NormPlainIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormIdeal.Result

open Cert.NormIdeal Cert.NormIdeal.Gen Cert.NormPlainIdeal.Read

variable (m : (ℓ : Loc nD τ sig) → Buf (Elt Ideal) ℓ)

/-- The block each window holds at a grid point: the rows of tile `t`, and the whole weight. -/
theorem idx : ∀ t : Fin cfg0.N, win0_0.index t = ![t.val, 0] ∧ win0_1.index t = ![0, 0] ∧ win0_2.index t = ![t.val, 0] :=
  (by decide +kernel : ∀ t : Fin grid0.N, _)

/-- What the kernel stores at row tile `t` is the reference's normalised row at that place of the array. -/
theorem point (c : Dev nD) (t : Fin cfg0.N) (y) : k0_pay1 (iblk m c 0 t) (iblk m c 1 t) y
    = val_main_v12 (F := Ideal) (m ((c : Thread nD τ).loc main_arg0)) (m ((c : Thread nD τ).loc main_arg1)) (((cfg0.win 2).blk t).view.emb y) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The result array of the kernel is the reference's result of the same arguments. -/
theorem final (c : Dev nD) : (dats m 0 c).arrAt 2 (cfgs 0).N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Result
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelPlainIdeal
public import proofs.«01_k».proof.Proof.Gen.KernelPlainIdeal.Run
public import proofs.«01_k».proof.Proof.Gen.ProjA
public import proofs.«01_k».proof.Proof.Gen.ProjA.Frame
public import proofs.«01_k».proof.Proof.Gen.ProjAIdeal
public import proofs.«01_k».proof.Proof.Gen.ProjAIdeal.Frame
public import proofs.«01_k».proof.Proof.Gen.ProjAPlainIdeal
public import proofs.«01_k».proof.Proof.Gen.ProjAPlainIdeal.Run
public import proofs.«01_k».proof.Proof.Gen.ProjAPlainIdeal.Read
public import proofs.«01_k».proof.Proof.ProjAValue
public import proofs.«01_k».proof.Proof.Gen.ProjB
public import proofs.«01_k».proof.Proof.Gen.ProjB.Frame
public import proofs.«01_k».proof.Proof.Gen.ProjBIdeal
public import proofs.«01_k».proof.Proof.Gen.ProjBIdeal.Frame
public import proofs.«01_k».proof.Proof.Gen.ProjBPlainIdeal
public import proofs.«01_k».proof.Proof.Gen.ProjBPlainIdeal.Run
public import proofs.«01_k».proof.Proof.Gen.ProjBPlainIdeal.Read
public import proofs.«01_k».proof.Proof.ProjBValue
public import proofs.«01_k».proof.Proof.Gen.OutA
public import proofs.«01_k».proof.Proof.Gen.OutA.Frame
public import proofs.«01_k».proof.Proof.Gen.OutAIdeal
public import proofs.«01_k».proof.Proof.Gen.OutAIdeal.Frame
public import proofs.«01_k».proof.Proof.Gen.OutAPlainIdeal
public import proofs.«01_k».proof.Proof.Gen.OutAPlainIdeal.Run
public import proofs.«01_k».proof.Proof.Gen.OutAPlainIdeal.Read
public import proofs.«01_k».proof.Proof.OutAValue
public import proofs.«01_k».proof.Proof.Gen.OutB
public import proofs.«01_k».proof.Proof.Gen.OutB.Frame
public import proofs.«01_k».proof.Proof.Gen.OutBIdeal
public import proofs.«01_k».proof.Proof.Gen.OutBIdeal.Frame
public import proofs.«01_k».proof.Proof.Gen.OutBPlainIdeal
public import proofs.«01_k».proof.Proof.Gen.OutBPlainIdeal.Run
public import proofs.«01_k».proof.Proof.Gen.OutBPlainIdeal.Read
public import proofs.«01_k».proof.Proof.OutBValue
public import proofs.«01_k».proof.Proof.Gen.Mem
public import proofs.«01_k».proof.Proof.Gen.Mem.Frame
public import proofs.«01_k».proof.Proof.Gen.MemIdeal
public import proofs.«01_k».proof.Proof.Gen.MemIdeal.Frame
public import proofs.«01_k».proof.Proof.Gen.MemPlainIdeal
public import proofs.«01_k».proof.Proof.Gen.MemPlainIdeal.Run
public import proofs.«01_k».proof.Proof.Gen.MemPlainIdeal.Read
public import proofs.«01_k».proof.Proof.MemValue
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvPlainIdeal
public import proofs.«01_k».proof.Proof.Gen.KvPlainIdeal.Run
public import proofs.«01_k».proof.Proof.Gen.KvPlainIdeal.Read
public import proofs.«01_k».proof.Proof.KvValue
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormPlainIdeal
public import proofs.«01_k».proof.Proof.Gen.NormPlainIdeal.Run
public import proofs.«01_k».proof.Proof.Gen.NormPlainIdeal.Read
public import proofs.«01_k».proof.Proof.NormValue
public import proofs.«01_k».proof.Proof.Gen.Pre_finite_mem
public import Idealize.ShloMosaic.Lib.Claim

@[expose] public section

set_option maxRecDepth 16384

noncomputable section

open Idealize.ShloMosaic Idealize.ShloMosaic.TcCoe Idealize.SL.Sem

namespace Cert.Proof

instance : Cert.Kernel.Facts := Cert.Kernel.Gen.facts
instance : Cert.KernelIdeal.Facts := Cert.KernelIdeal.Gen.facts
instance : Cert.KernelPlainIdeal.Facts := Cert.KernelPlainIdeal.Gen.facts

/-- The reference of `Kernel` ends with its arguments unchanged and every counter at zero. -/
theorem plain_Kernel : Cert.quiescent_KernelPlainIdeal := fun m ρ _ =>
  (θ_run Cert.KernelPlainIdeal.defs _ _).mono (fun r h => ⟨fun c => (h c).2, sem_eq_zero_of_no_sems (by decide) r.2⟩)
    (Cert.KernelPlainIdeal.Value.run (F := Ideal) m ρ)

instance : Cert.ProjA.Facts := Cert.ProjA.Gen.facts
instance : Cert.ProjAIdeal.Facts := Cert.ProjAIdeal.Gen.facts
instance : Cert.ProjAPlainIdeal.Facts := Cert.ProjAPlainIdeal.Gen.facts

/-- The reference of `ProjA` ends with its arguments unchanged and every counter at zero. -/
theorem plain_ProjA : Cert.quiescent_ProjAPlainIdeal := fun m ρ _ =>
  (θ_run Cert.ProjAPlainIdeal.defs _ _).mono (fun r h => ⟨fun c => (h c).2, sem_eq_zero_of_no_sems (by decide) r.2⟩)
    (Cert.ProjAPlainIdeal.Value.run (F := Ideal) m ρ)

/-- The `ProjA` call and its reference end with equal results. -/
theorem value_ProjA : Cert.algebraic_ProjAIdeal_ProjAPlainIdeal := by
  pair_intro
  · run_from Cert.ProjAIdeal.Gen.run_main m g
  · run_from Cert.ProjAPlainIdeal.Value.run (F := Ideal) m' g'
    exact (Cert.ProjAIdeal.Result.final m c).symm

instance : Cert.ProjB.Facts := Cert.ProjB.Gen.facts
instance : Cert.ProjBIdeal.Facts := Cert.ProjBIdeal.Gen.facts
instance : Cert.ProjBPlainIdeal.Facts := Cert.ProjBPlainIdeal.Gen.facts

/-- The reference of `ProjB` ends with its arguments unchanged and every counter at zero. -/
theorem plain_ProjB : Cert.quiescent_ProjBPlainIdeal := fun m ρ _ =>
  (θ_run Cert.ProjBPlainIdeal.defs _ _).mono (fun r h => ⟨fun c => (h c).2, sem_eq_zero_of_no_sems (by decide) r.2⟩)
    (Cert.ProjBPlainIdeal.Value.run (F := Ideal) m ρ)

/-- The `ProjB` call and its reference end with equal results. -/
theorem value_ProjB : Cert.algebraic_ProjBIdeal_ProjBPlainIdeal := by
  pair_intro
  · run_from Cert.ProjBIdeal.Gen.run_main m g
    · exact Cert.ProjBIdeal.Gen.V_main_arg0 m c
    · exact Cert.ProjBIdeal.Gen.V_main_arg1 m c
    · exact Cert.ProjBIdeal.Gen.V_main_arg2 m c
  · run_from Cert.ProjBPlainIdeal.Value.run (F := Ideal) m' g'
    rw [Cert.ProjBPlainIdeal.Read.val_main_v21_eq m' c, (hagree c).1, (hagree c).2.1, (hagree c).2.2]
    exact (Cert.ProjBIdeal.Result.final m c).symm

instance : Cert.OutA.Facts := Cert.OutA.Gen.facts
instance : Cert.OutAIdeal.Facts := Cert.OutAIdeal.Gen.facts
instance : Cert.OutAPlainIdeal.Facts := Cert.OutAPlainIdeal.Gen.facts

/-- The reference of `OutA` ends with its arguments unchanged and every counter at zero. -/
theorem plain_OutA : Cert.quiescent_OutAPlainIdeal := fun m ρ _ =>
  (θ_run Cert.OutAPlainIdeal.defs _ _).mono (fun r h => ⟨fun c => (h c).2, sem_eq_zero_of_no_sems (by decide) r.2⟩)
    (Cert.OutAPlainIdeal.Value.run (F := Ideal) m ρ)

/-- The `OutA` call and its reference end with equal results. -/
theorem value_OutA : Cert.algebraic_OutAIdeal_OutAPlainIdeal := by
  pair_intro
  · run_from Cert.OutAIdeal.Gen.run_main m g
  · run_from Cert.OutAPlainIdeal.Value.run (F := Ideal) m' g'
    exact (Cert.OutAIdeal.Result.final m c).symm

instance : Cert.OutB.Facts := Cert.OutB.Gen.facts
instance : Cert.OutBIdeal.Facts := Cert.OutBIdeal.Gen.facts
instance : Cert.OutBPlainIdeal.Facts := Cert.OutBPlainIdeal.Gen.facts

/-- The reference of `OutB` ends with its arguments unchanged and every counter at zero. -/
theorem plain_OutB : Cert.quiescent_OutBPlainIdeal := fun m ρ _ =>
  (θ_run Cert.OutBPlainIdeal.defs _ _).mono (fun r h => ⟨fun c => (h c).2, sem_eq_zero_of_no_sems (by decide) r.2⟩)
    (Cert.OutBPlainIdeal.Value.run (F := Ideal) m ρ)

/-- The `OutB` call and its reference end with equal results. -/
theorem value_OutB : Cert.algebraic_OutBIdeal_OutBPlainIdeal := by
  pair_intro
  · run_from Cert.OutBIdeal.Gen.run_main m g
  · run_from Cert.OutBPlainIdeal.Value.run (F := Ideal) m' g'
    exact (Cert.OutBIdeal.Result.final m c).symm

instance : Cert.Mem.Facts := Cert.Mem.Gen.facts
instance : Cert.MemIdeal.Facts := Cert.MemIdeal.Gen.facts
instance : Cert.MemPlainIdeal.Facts := Cert.MemPlainIdeal.Gen.facts
instance : Cert.Pre_finite_mem.Facts := Cert.Pre_finite_mem.Gen.facts

/-- The reference of `Mem` ends with its arguments unchanged and every counter at zero. -/
theorem plain_Mem : Cert.quiescent_MemPlainIdeal := fun m ρ _ =>
  (θ_run Cert.MemPlainIdeal.defs _ _).mono (fun r h => ⟨fun c => (h c).2, sem_eq_zero_of_no_sems (by decide) r.2⟩)
    (Cert.MemPlainIdeal.Value.run (F := Ideal) m ρ)

/-- The `Mem` call and its reference end with equal results. -/
theorem value_Mem : Cert.algebraic_MemIdeal_MemPlainIdeal_pre_finite_mem := by
  pair_intro
  · run_from Cert.MemIdeal.Gen.run_main m g
  · run_from Cert.MemPlainIdeal.Value.run (F := Ideal) m' g'
    exact (Cert.MemIdeal.Result.final_pre m c (hpre c)).symm

instance : Cert.Kv.Facts := Cert.Kv.Gen.facts
instance : Cert.KvIdeal.Facts := Cert.KvIdeal.Gen.facts
instance : Cert.KvPlainIdeal.Facts := Cert.KvPlainIdeal.Gen.facts

/-- The reference of `Kv` ends with its arguments unchanged and every counter at zero. -/
theorem plain_Kv : Cert.quiescent_KvPlainIdeal := fun m ρ _ =>
  (θ_run Cert.KvPlainIdeal.defs _ _).mono (fun r h => ⟨fun c => (h c).2.2, sem_eq_zero_of_no_sems (by decide) r.2⟩)
    (Cert.KvPlainIdeal.Value.run (F := Ideal) m ρ)

/-- The `Kv` call and its reference end with equal results. -/
theorem value_Kv : Cert.algebraic_KvIdeal_KvPlainIdeal := by
  pair_intro
  · run_from Cert.KvIdeal.Gen.run_main m g
  · run_from Cert.KvPlainIdeal.Value.run (F := Ideal) m' g'
    · exact (Cert.KvIdeal.Result.final2 m c).symm
    · exact (Cert.KvIdeal.Result.final3 m c).symm

instance : Cert.Norm.Facts := Cert.Norm.Gen.facts
instance : Cert.NormIdeal.Facts := Cert.NormIdeal.Gen.facts
instance : Cert.NormPlainIdeal.Facts := Cert.NormPlainIdeal.Gen.facts

/-- The reference of `Norm` ends with its arguments unchanged and every counter at zero. -/
theorem plain_Norm : Cert.quiescent_NormPlainIdeal := fun m ρ _ =>
  (θ_run Cert.NormPlainIdeal.defs _ _).mono (fun r h => ⟨fun c => (h c).2, sem_eq_zero_of_no_sems (by decide) r.2⟩)
    (Cert.NormPlainIdeal.Value.run (F := Ideal) m ρ)

/-- The `Norm` call and its reference end with equal results. -/
theorem value_Norm : Cert.algebraic_NormIdeal_NormPlainIdeal := by
  pair_intro
  · run_from Cert.NormIdeal.Gen.run_main m g
  · run_from Cert.NormPlainIdeal.Value.run (F := Ideal) m' g'
    exact (Cert.NormIdeal.Result.final m c).symm

theorem claim : Cert.Claim := ⟨Cert.Kernel.Gen.facts,
  Cert.KernelIdeal.Gen.facts,
  Cert.KernelPlainIdeal.Gen.facts,
  Cert.ProjA.Gen.facts,
  Cert.ProjAIdeal.Gen.facts,
  Cert.ProjAPlainIdeal.Gen.facts,
  Cert.ProjB.Gen.facts,
  Cert.ProjBIdeal.Gen.facts,
  Cert.ProjBPlainIdeal.Gen.facts,
  Cert.OutA.Gen.facts,
  Cert.OutAIdeal.Gen.facts,
  Cert.OutAPlainIdeal.Gen.facts,
  Cert.OutB.Gen.facts,
  Cert.OutBIdeal.Gen.facts,
  Cert.OutBPlainIdeal.Gen.facts,
  Cert.Mem.Gen.facts,
  Cert.MemIdeal.Gen.facts,
  Cert.MemPlainIdeal.Gen.facts,
  Cert.Kv.Gen.facts,
  Cert.KvIdeal.Gen.facts,
  Cert.KvPlainIdeal.Gen.facts,
  Cert.Norm.Gen.facts,
  Cert.NormIdeal.Gen.facts,
  Cert.NormPlainIdeal.Gen.facts,
  Cert.Pre_finite_mem.Gen.facts,
  fun m ρ _ => Cert.Kernel.Gen.frame m ρ,
  fun m ρ _ => Cert.KernelIdeal.Gen.frame m ρ,
  plain_Kernel,
  fun m ρ _ => Cert.ProjA.Gen.frame m ρ,
  fun m ρ _ => Cert.ProjAIdeal.Gen.frame m ρ,
  plain_ProjA,
  fun m ρ _ => Cert.ProjB.Gen.frame m ρ,
  fun m ρ _ => Cert.ProjBIdeal.Gen.frame m ρ,
  plain_ProjB,
  fun m ρ _ => Cert.OutA.Gen.frame m ρ,
  fun m ρ _ => Cert.OutAIdeal.Gen.frame m ρ,
  plain_OutA,
  fun m ρ _ => Cert.OutB.Gen.frame m ρ,
  fun m ρ _ => Cert.OutBIdeal.Gen.frame m ρ,
  plain_OutB,
  fun m ρ _ => Cert.Mem.Gen.frame m ρ,
  fun m ρ _ => Cert.MemIdeal.Gen.frame m ρ,
  fun m ρ _ => Cert.MemIdeal.Gen.frame m ρ,
  plain_Mem,
  fun m ρ _ => plain_Mem m ρ trivial,
  fun m ρ _ => Cert.Kv.Gen.frame m ρ,
  fun m ρ _ => Cert.KvIdeal.Gen.frame m ρ,
  plain_Kv,
  fun m ρ _ => Cert.Norm.Gen.frame m ρ,
  fun m ρ _ => Cert.NormIdeal.Gen.frame m ρ,
  plain_Norm,
  IdealRules.named_const.statement _ _ _ _ _ rfl,
  trivial,
  value_ProjA,
  trivial,
  value_ProjB,
  trivial,
  value_OutA,
  trivial,
  value_OutB,
  trivial,
  value_Mem,
  trivial,
  value_Kv,
  trivial,
  value_Norm⟩

end Cert.Proof

end
